-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordered_knots [hPre_ordered_knots : Cert.Pre_ordered_knots.Facts] (m : (ℓ : Loc Cert.KernelIdeal.nD Cert.KernelIdeal.τ Cert.KernelIdeal.sig) → Buf (Elt Ideal) ℓ) : Prop :=
  ∀ c : Dev Cert.KernelIdeal.nD,
    (Cert.Pre_ordered_knots.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_ordered_knots.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_ordered_knots.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_ordered_knots.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_ordered_knots.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_ordered_knots.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_ordered_knots.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_ordered_knots.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_ordered_knots.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordered_knots [hPre_ordered_knots : Cert.Pre_ordered_knots.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordered_knots.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_ordered_knots.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_ordered_knots.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_ordered_knots.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_ordered_knots.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_ordered_knots.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_ordered_knots.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_ordered_knots.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_ordered_knots.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_ordered_knots [hKernelIdeal : Cert.KernelIdeal.Facts] [hPre_ordered_knots : Cert.Pre_ordered_knots.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordered_knots m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_ordered_knots [hReferenceIdeal : Cert.ReferenceIdeal.Facts] [hPre_ordered_knots : Cert.Pre_ordered_knots.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordered_knots m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_ordered_knots [hKernelIdeal : Cert.KernelIdeal.Facts] [hReferenceIdeal : Cert.ReferenceIdeal.Facts] [hPre_ordered_knots : Cert.Pre_ordered_knots.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordered_knots m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_ordered_knots : Cert.Pre_ordered_knots.Facts),
    quiescent_Kernel (hKernel := hKernel)
    ∧ quiescent_KernelIdeal (hKernelIdeal := hKernelIdeal)
    ∧ quiescent_KernelIdeal_pre_ordered_knots (hKernelIdeal := hKernelIdeal) (hPre_ordered_knots := hPre_ordered_knots)
    ∧ quiescent_ReferenceIdeal (hReferenceIdeal := hReferenceIdeal)
    ∧ quiescent_ReferenceIdeal_pre_ordered_knots (hReferenceIdeal := hReferenceIdeal) (hPre_ordered_knots := hPre_ordered_knots)
    ∧ preserves_Kernel_KernelIdeal
    ∧ algebraic_KernelIdeal_ReferenceIdeal_pre_ordered_knots (hKernelIdeal := hKernelIdeal) (hReferenceIdeal := hReferenceIdeal) (hPre_ordered_knots := hPre_ordered_knots)
-- ==== Pre_ordered_knots.lean ====
abbrev S262144x128 : Shape := ⟨2, ![262144, 128]⟩
abbrev S128x7 : Shape := ⟨2, ![128, 7]⟩
abbrev S128x6 : Shape := ⟨2, ![128, 6]⟩
abbrev S128 : Shape := ⟨1, ![128]⟩
abbrev S1x128 : Shape := ⟨2, ![1, 128]⟩
abbrev S128x32 : Shape := ⟨2, ![128, 32]⟩
abbrev S_ : Shape := ⟨0, ![]⟩

class Facts : Prop where
  bcast_S_S262144x128 : S_.BroadcastsInDim S262144x128 (![] : Fin 0 → Fin S262144x128.rank)
  bcast_S_S128x7 : S_.BroadcastsInDim S128x7 (![] : Fin 0 → Fin S128x7.rank)
  slices_S128x7_S128x6_0_0 : S128x7.Slices ![0, 0] S128x6
  slices_S128x7_S128x6_0_1 : S128x7.Slices ![0, 1] S128x6
  bcast_S_S128x6 : S_.BroadcastsInDim S128x6 (![] : Fin 0 → Fin S128x6.rank)
  bcast_S_S128 : S_.BroadcastsInDim S128 (![] : Fin 0 → Fin S128.rank)
  bcast_S_S1x128 : S_.BroadcastsInDim S1x128 (![] : Fin 0 → Fin S1x128.rank)
  bcast_S_S128x32 : S_.BroadcastsInDim S128x32 (![] : Fin 0 → Fin S128x32.rank)

variable [Facts]

def fn_part1 {F : FTy → Type} [FloatOps F] (main_arg6 : FVec F S1x128 .f32) (main_arg8 : FVec F S128x32 .f32) (main_v2 : IVec S262144x128 1) (main_v5 : IVec S128x7 1) (main_v8 : IVec S128x6 1) (main_v10 : IVec S128x6 1) (main_v12 : IVec S128 1) (main_v15 : IVec S1x128 1) (main_v17 : IVec S1x128 1) : IVec S262144x128 1 × IVec S128x7 1 × IVec S128x6 1 × IVec S128x6 1 × IVec S128 1 × IVec S1x128 1 × IVec S1x128 1 × IVec S1x128 1 × IVec S128x32 1 :=
  let main_cst_5 : FVec F S_ .f32 := constant S_ .f32 0x7F800000#32
  let main_v18 : FVec F S1x128 .f32 := broadcastInDim S1x128 ![] bcast_S_S1x128 main_cst_5
  let main_v19 : IVec S1x128 1 := cmpf .olt main_arg6 main_v18
  let main_v20 : FVec F S128x32 .f32 := Host.absf main_arg8
  let main_cst_6 : FVec F S_ .f32 := constant S_ .f32 0x7F800000#32
  let main_v21 : FVec F S128x32 .f32 := broadcastInDim S128x32 ![] bcast_S_S128x32 main_cst_6
  let main_v22 : IVec S128x32 1 := cmpf .olt main_v20 main_v21
  (main_v2, main_v5, main_v8, main_v10, main_v12, main_v15, main_v17, main_v19, main_v22)

def fn {F : FTy → Type} [FloatOps F] (main_arg0 : FVec F S262144x128 .f32) (main_arg1 : FVec F S128x7 .f32) (main_arg2 : FVec F S128x6 .f32) (main_arg3 : FVec F S128 .f32) (main_arg4 : FVec F S128 .f32) (main_arg5 : FVec F S1x128 .f32) (main_arg6 : FVec F S1x128 .f32) (main_arg7 : FVec F S1x128 .f32) (main_arg8 : FVec F S128x32 .f32) : IVec S262144x128 1 × IVec S128x7 1 × IVec S128x6 1 × IVec S128x6 1 × IVec S128 1 × IVec S1x128 1 × IVec S1x128 1 × IVec S1x128 1 × IVec S128x32 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_v3 : FVec F S128x7 .f32 := Host.absf main_arg1
  let main_cst_0 : FVec F S_ .f32 := constant S_ .f32 0x7F800000#32
  let main_v4 : FVec F S128x7 .f32 := broadcastInDim S128x7 ![] bcast_S_S128x7 main_cst_0
  let main_v5 : IVec S128x7 1 := cmpf .olt main_v3 main_v4
  let main_v6 : FVec F S128x6 .f32 := (extractStridedSlice S128x6 ![0, 0] · slices_S128x7_S128x6_0_0) main_arg1
  let main_v7 : FVec F S128x6 .f32 := (extractStridedSlice S128x6 ![0, 1] · slices_S128x7_S128x6_0_1) main_arg1
  let main_v8 : IVec S128x6 1 := cmpf .ole main_v6 main_v7
  let main_cst_1 : FVec F S_ .f32 := constant S_ .f32 0x7F800000#32
  let main_v9 : FVec F S128x6 .f32 := broadcastInDim S128x6 ![] bcast_S_S128x6 main_cst_1
  let main_v10 : IVec S128x6 1 := cmpf .olt main_arg2 main_v9
  let main_cst_2 : FVec F S_ .f32 := constant S_ .f32 0x7F800000#32
  let main_v11 : FVec F S128 .f32 := broadcastInDim S128 ![] bcast_S_S128 main_cst_2
  let main_v12 : IVec S128 1 := cmpf .olt main_arg3 main_v11
  let main_v13 : FVec F S1x128 .f32 := Host.absf main_arg5
  let main_cst_3 : FVec F S_ .f32 := constant S_ .f32 0x7F800000#32
  let main_v14 : FVec F S1x128 .f32 := broadcastInDim S1x128 ![] bcast_S_S1x128 main_cst_3
  let main_v15 : IVec S1x128 1 := cmpf .olt main_v13 main_v14
  let main_cst_4 : FVec F S_ .f32 := constant S_ .f32 0x00000000#32
  let main_v16 : FVec F S1x128 .f32 := broadcastInDim S1x128 ![] bcast_S_S1x128 main_cst_4
  let main_v17 : IVec S1x128 1 := cmpf .ogt main_arg6 main_v16
  fn_part1 (F := F) main_arg6 main_arg8 main_v2 main_v5 main_v8 main_v10 main_v12 main_v15 main_v17
-- ==== Kernel.lean ====
abbrev S262144x128 : Shape := ⟨2, ![262144, 128]⟩
abbrev S128x7 : Shape := ⟨2, ![128, 7]⟩
abbrev S128x6 : Shape := ⟨2, ![128, 6]⟩
abbrev S128 : Shape := ⟨1, ![128]⟩
abbrev S1x128 : Shape := ⟨2, ![1, 128]⟩
abbrev S128x32 : Shape := ⟨2, ![128, 32]⟩
abbrev S7x128 : Shape := ⟨2, ![7, 128]⟩
abbrev S6x128 : Shape := ⟨2, ![6, 128]⟩
abbrev S262144x32 : Shape := ⟨2, ![262144, 32]⟩
abbrev S16384x128 : Shape := ⟨2, ![16384, 128]⟩
abbrev S16384x32 : Shape := ⟨2, ![16384, 32]⟩
abbrev S5x128 : Shape := ⟨2, ![5, 128]⟩
abbrev S1x32 : Shape := ⟨2, ![1, 32]⟩

abbrev nBuf : Space → Nat
  | .hbm => 14
  | .vmem => 12
  | .smem => 0
  | _ => 0

abbrev bufTy : (tb : Table) → Fin (tcTables nBuf tb) → BufTy
  | .hbm, ⟨0, _⟩ => ⟨S262144x128, .f32⟩
  | .hbm, ⟨1, _⟩ => ⟨S128x7, .f32⟩
  | .hbm, ⟨2, _⟩ => ⟨S128x6, .f32⟩
  | .hbm, ⟨3, _⟩ => ⟨S128, .f32⟩
  | .hbm, ⟨4, _⟩ => ⟨S128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S128x32, .f32⟩
  | .hbm, ⟨9, _⟩ => ⟨S7x128, .f32⟩
  | .hbm, ⟨10, _⟩ => ⟨S6x128, .f32⟩
  | .hbm, ⟨11, _⟩ => ⟨S1x128, .f32⟩
  | .hbm, ⟨12, _⟩ => ⟨S1x128, .f32⟩
  | .hbm, ⟨13, _⟩ => ⟨S262144x32, .f32⟩
  | .local _ .vmem, ⟨0, _⟩ => ⟨S7x128, .f32⟩
  | .local _ .vmem, ⟨1, _⟩ => ⟨S6x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S128x32, .f32⟩
  | .local _ .vmem, ⟨8, _⟩ => ⟨S16384x128, .f32⟩
  | .local _ .vmem, ⟨9, _⟩ => ⟨S16384x128, .f32⟩
  | .local _ .vmem, ⟨10, _⟩ => ⟨S16384x32, .f32⟩
  | .local _ .vmem, ⟨11, _⟩ => ⟨S16384x32, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S7x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16384x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16384x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S262144x128 : Shape := ⟨2, ![262144, 128]⟩
abbrev S128x7 : Shape := ⟨2, ![128, 7]⟩
abbrev S128x6 : Shape := ⟨2, ![128, 6]⟩
abbrev S128 : Shape := ⟨1, ![128]⟩
abbrev S1x128 : Shape := ⟨2, ![1, 128]⟩
abbrev S128x32 : Shape := ⟨2, ![128, 32]⟩
abbrev S_ : Shape := ⟨0, ![]⟩
abbrev S128x1 : Shape := ⟨2, ![128, 1]⟩
abbrev S128x262144 : Shape := ⟨2, ![128, 262144]⟩
abbrev S128x7x1 : Shape := ⟨3, ![128, 7, 1]⟩
abbrev S128x1x262144 : Shape := ⟨3, ![128, 1, 262144]⟩
abbrev S128x7x262144 : Shape := ⟨3, ![128, 7, 262144]⟩
abbrev S128x262144x1 : Shape := ⟨3, ![128, 262144, 1]⟩
abbrev S1 : Shape := ⟨1, ![1]⟩
abbrev S1x1x1 : Shape := ⟨3, ![1, 1, 1]⟩
abbrev S262144x32 : Shape := ⟨2, ![262144, 32]⟩

abbrev nBuf : Space → Nat
  | .hbm => 172
  | .vmem => 0
  | .smem => 0
  | _ => 0

abbrev hbmTy0_0 (i : Nat) : BufTy := match i % 128 with
  | 0 => ⟨S262144x128, .f32⟩
  | 1 => ⟨S128x7, .f32⟩
  | 2 => ⟨S128x6, .f32⟩
  | 3 => ⟨S128, .f32⟩
  | 4 => ⟨S128, .f32⟩
  | 5 => ⟨S1x128, .f32⟩
  | 6 => ⟨S1x128, .f32⟩
  | 7 => ⟨S1x128, .f32⟩
  | 8 => ⟨S128x32, .f32⟩
  | 9 => ⟨S262144x128, .f32⟩
  | 10 => ⟨S262144x128, .f32⟩
  | 11 => ⟨S262144x128, .f32⟩
  | 12 => ⟨S262144x128, .f32⟩
  | 13 => ⟨S128x6, .f32⟩
  | 14 => ⟨S128x6, .f32⟩
  | 15 => ⟨S128x6, .f32⟩
  | 16 => ⟨S_, .f32⟩
  | 17 => ⟨S128x6, .f32⟩
  | 18 => ⟨S128x6, .f32⟩
  | 19 => ⟨S128x6, .f32⟩
  | 20 => ⟨S128x6, .f32⟩
  | 21 => ⟨S128x6, .i1⟩
  | 22 => ⟨S128x6, .f32⟩
  | 23 => ⟨S128x6, .f32⟩
  | 24 => ⟨S128x6, .f32⟩
  | 25 => ⟨S128x6, .f32⟩
  | 26 => ⟨S128x6, .f32⟩
  | 27 => ⟨S128x6, .f32⟩
  | 28 => ⟨S128x6, .f32⟩
  | 29 => ⟨S128x6, .f32⟩
  | 30 => ⟨S_, .f32⟩
  | 31 => ⟨S128x6, .f32⟩
  | 32 => ⟨S128x6, .f32⟩
  | 33 => ⟨S128x6, .f32⟩
  | 34 => ⟨S_, .f32⟩
  | 35 => ⟨S128, .f32⟩
  | 36 => ⟨S128x1, .f32⟩
  | 37 => ⟨S_, .f32⟩
  | 38 => ⟨S128, .f32⟩
  | 39 => ⟨S128x1, .f32⟩
  | 40 => ⟨S_, .f32⟩
  | 41 => ⟨S128x1, .f32⟩
  | 42 => ⟨S128x1, .f32⟩
  | 43 => ⟨S128x1, .f32⟩
  | 44 => ⟨S_, .f32⟩
  | 45 => ⟨S128x1, .f32⟩
  | 46 => ⟨S128x1, .f32⟩
  | 47 => ⟨S128x6, .f32⟩
  | 48 => ⟨S128x6, .f32⟩
  | 49 => ⟨S_, .f32⟩
  | 50 => ⟨S128x1, .f32⟩
  | 51 => ⟨S128x6, .f32⟩
  | 52 => ⟨S_, .f32⟩
  | 53 => ⟨S_, .f32⟩
  | 54 => ⟨S128x6, .f32⟩
  | 55 => ⟨S128x7, .f32⟩
  | 56 => ⟨S128x262144, .f32⟩
  | 57 => ⟨S128x7x1, .f32⟩
  | 58 => ⟨S128x1x262144, .f32⟩
  | 59 => ⟨S128x7x262144, .f32⟩
  | 60 => ⟨S128x7x262144, .f32⟩
  | 61 => ⟨S128x7x262144, .i1⟩
  | 62 => ⟨S128x7x262144, .i32⟩
  | 63 => ⟨S_, .i32⟩
  | 64 => ⟨S128x262144, .i32⟩
  | 65 => ⟨S_, .i32⟩
  | 66 => ⟨S_, .i32⟩
  | 67 => ⟨S_, .i32⟩
  | 68 => ⟨S128x262144, .i32⟩
  | 69 => ⟨S128x262144, .i32⟩
  | 70 => ⟨S_, .i32⟩
  | 71 => ⟨S128x262144, .i32⟩
  | 72 => ⟨S128x262144, .i32⟩
  | 73 => ⟨S_, .i32⟩
  | 74 => ⟨S128x262144, .i32⟩
  | 75 => ⟨S128x262144, .i32⟩
  | 76 => ⟨S_, .i32⟩
  | 77 => ⟨S128x262144, .i32⟩
  | 78 => ⟨S128x262144, .i1⟩
  | 79 => ⟨S_, .i32⟩
  | 80 => ⟨S128x262144, .i32⟩
  | 81 => ⟨S128x262144, .i32⟩
  | 82 => ⟨S128x262144, .i32⟩
  | 83 => ⟨S128x262144x1, .i32⟩
  | 84 => ⟨S1, .i32⟩
  | 85 => ⟨S_, .i32⟩
  | 86 => ⟨S128x262144x1, .i32⟩
  | 87 => ⟨S128x262144x1, .i1⟩
  | 88 => ⟨S1x1x1, .i32⟩
  | 89 => ⟨S128x262144x1, .i32⟩
  | 90 => ⟨S128x262144x1, .i1⟩
  | 91 => ⟨S128x262144x1, .i1⟩
  | 92 => ⟨S_, .i1⟩
  | 93 => ⟨S128x262144, .i1⟩
  | 94 => ⟨S128x262144, .f32⟩
  | 95 => ⟨S_, .f32⟩
  | 96 => ⟨S128x262144, .f32⟩
  | 97 => ⟨S128x262144, .f32⟩
  | 98 => ⟨S_, .i32⟩
  | 99 => ⟨S128x262144, .i32⟩
  | 100 => ⟨S128x262144, .i1⟩
  | 101 => ⟨S_, .i32⟩
  | 102 => ⟨S128x262144, .i32⟩
  | 103 => ⟨S128x262144, .i32⟩
  | 104 => ⟨S128x262144, .i32⟩
  | 105 => ⟨S128x262144x1, .i32⟩
  | 106 => ⟨S1, .i32⟩
  | 107 => ⟨S_, .i32⟩
  | 108 => ⟨S128x262144x1, .i32⟩
  | 109 => ⟨S128x262144x1, .i1⟩
  | 110 => ⟨S1x1x1, .i32⟩
  | 111 => ⟨S128x262144x1, .i32⟩
  | 112 => ⟨S128x262144x1, .i1⟩
  | 113 => ⟨S128x262144x1, .i1⟩
  | 114 => ⟨S_, .i1⟩
  | 115 => ⟨S128x262144, .i1⟩
  | 116 => ⟨S128x262144, .f32⟩
  | 117 => ⟨S_, .f32⟩
  | 118 => ⟨S128x262144, .f32⟩
  | 119 => ⟨S128x262144, .f32⟩
  | 120 => ⟨S_, .i32⟩
  | 121 => ⟨S128x262144, .i32⟩
  | 122 => ⟨S128x262144, .i1⟩
  | 123 => ⟨S_, .i32⟩
  | 124 => ⟨S128x262144, .i32⟩
  | 125 => ⟨S128x262144, .i32⟩
  | 126 => ⟨S128x262144, .i32⟩
  | 127 => ⟨S128x262144x1, .i32⟩
  | _ => ⟨S262144x128, .f32⟩

abbrev hbmTy0_1 (i : Nat) : BufTy := match i % 128 with
  | 0 => ⟨S1, .i32⟩
  | 1 => ⟨S_, .i32⟩
  | 2 => ⟨S128x262144x1, .i32⟩
  | 3 => ⟨S128x262144x1, .i1⟩
  | 4 => ⟨S1x1x1, .i32⟩
  | 5 => ⟨S128x262144x1, .i32⟩
  | 6 => ⟨S128x262144x1, .i1⟩
  | 7 => ⟨S128x262144x1, .i1⟩
  | 8 => ⟨S_, .i1⟩
  | 9 => ⟨S128x262144, .i1⟩
  | 10 => ⟨S128x262144, .f32⟩
  | 11 => ⟨S_, .f32⟩
  | 12 => ⟨S128x262144, .f32⟩
  | 13 => ⟨S128x262144, .f32⟩
  | 14 => ⟨S128x262144, .f32⟩
  | 15 => ⟨S128x262144, .f32⟩
  | 16 => ⟨S128x262144, .f32⟩
  | 17 => ⟨S262144x128, .f32⟩
  | 18 => ⟨S_, .f32⟩
  | 19 => ⟨S128, .f32⟩
  | 20 => ⟨S128, .f32⟩
  | 21 => ⟨S128, .f32⟩
  | 22 => ⟨S128, .f32⟩
  | 23 => ⟨S128, .i1⟩
  | 24 => ⟨S128, .f32⟩
  | 25 => ⟨S128, .f32⟩
  | 26 => ⟨S128, .f32⟩
  | 27 => ⟨S128, .f32⟩
  | 28 => ⟨S128, .f32⟩
  | 29 => ⟨S128, .f32⟩
  | 30 => ⟨S128, .f32⟩
  | 31 => ⟨S128, .f32⟩
  | 32 => ⟨S_, .f32⟩
  | 33 => ⟨S128, .f32⟩
  | 34 => ⟨S128, .f32⟩
  | 35 => ⟨S1x128, .f32⟩
  | 36 => ⟨S262144x128, .f32⟩
  | 37 => ⟨S262144x128, .f32⟩
  | 38 => ⟨S1x128, .f32⟩
  | 39 => ⟨S262144x128, .f32⟩
  | 40 => ⟨S262144x128, .f32⟩
  | 41 => ⟨S262144x128, .f32⟩
  | 42 => ⟨S262144x128, .f32⟩
  | 43 => ⟨S262144x32, .f32⟩
  | _ => ⟨S262144x128, .f32⟩

abbrev hbmTy (i : Nat) : BufTy := match i / 128 with
  | 0 => hbmTy0_0 i
  | 1 => hbmTy0_1 i
  | _ => ⟨S262144x128, .f32⟩

abbrev bufTy : (tb : Table) → Fin (tcTables nBuf tb) → BufTy
  | .hbm, ⟨i, _⟩ => hbmTy i
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_0 : Ref sig .tc := ⟨.hbm, 34, rfl⟩
abbrev main_v11 : Ref sig .tc := ⟨.hbm, 35, rfl⟩
abbrev main_v12 : Ref sig .tc := ⟨.hbm, 36, rfl⟩
abbrev main_cst_1 : Ref sig .tc := ⟨.hbm, 37, rfl⟩
abbrev main_v13 : Ref sig .tc := ⟨.hbm, 38, rfl⟩
abbrev main_v14 : Ref sig .tc := ⟨.hbm, 39, rfl⟩
abbrev main_cst_2 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_4 : Ref sig .tc := ⟨.hbm, 49, rfl⟩
abbrev main_v22 : Ref sig .tc := ⟨.hbm, 50, rfl⟩
abbrev main_v23 : Ref sig .tc := ⟨.hbm, 51, rfl⟩
abbrev main_call1_call0_cst : Ref sig .tc := ⟨.hbm, 52, rfl⟩
abbrev main_call1_call0_v0 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c : Ref sig .tc := ⟨.hbm, 63, rfl⟩
abbrev main_v33 : Ref sig .tc := ⟨.hbm, 64, rfl⟩
abbrev main_c_5 : Ref sig .tc := ⟨.hbm, 65, rfl⟩
abbrev main_c_6 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_v34 : Ref sig .tc := ⟨.hbm, 72, rfl⟩
abbrev main_c_7 : Ref sig .tc := ⟨.hbm, 73, rfl⟩
abbrev main_v35 : Ref sig .tc := ⟨.hbm, 74, rfl⟩
abbrev main_v36 : Ref sig .tc := ⟨.hbm, 75, rfl⟩
abbrev main_call3_c : Ref sig .tc := ⟨.hbm, 76, rfl⟩
abbrev main_call3_v0 : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_c_1 : Ref sig .tc := ⟨.hbm, 84, rfl⟩
abbrev main_call3_c_2 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_c_3 : Ref sig .tc := ⟨.hbm, 92, rfl⟩
abbrev main_call3_v12 : Ref sig .tc := ⟨.hbm, 93, rfl⟩
abbrev main_call3_v13 : Ref sig .tc := ⟨.hbm, 94, rfl⟩
abbrev main_call3_cst : Ref sig .tc := ⟨.hbm, 95, rfl⟩
abbrev main_call3_v14 : Ref sig .tc := ⟨.hbm, 96, rfl⟩
abbrev main_v37 : Ref sig .tc := ⟨.hbm, 97, rfl⟩
abbrev main_call4_c : Ref sig .tc := ⟨.hbm, 98, rfl⟩
abbrev main_call4_v0 : Ref sig .tc := ⟨.hbm, 99, rfl⟩
abbrev main_call4_v1 : Ref sig .tc := ⟨.hbm, 100, rfl⟩
abbrev main_call4_c_0 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_call4_v5 : Ref sig .tc := ⟨.hbm, 105, rfl⟩
abbrev main_call4_c_1 : Ref sig .tc := ⟨.hbm, 106, rfl⟩
abbrev main_call4_c_2 : Ref sig .tc := ⟨.hbm, 107, rfl⟩
abbrev main_call4_v6 : Ref sig .tc := ⟨.hbm, 108, rfl⟩
abbrev main_call4_v7 : Ref sig .tc := ⟨.hbm, 109, rfl⟩
abbrev main_call4_v8 : Ref sig .tc := ⟨.hbm, 110, rfl⟩
abbrev main_call4_v9 : Ref sig .tc := ⟨.hbm, 111, rfl⟩
abbrev main_call4_v10 : Ref sig .tc := ⟨.hbm, 112, rfl⟩
abbrev main_call4_v11 : Ref sig .tc := ⟨.hbm, 113, rfl⟩
abbrev main_call4_c_3 : Ref sig .tc := ⟨.hbm, 114, rfl⟩
abbrev main_call4_v12 : Ref sig .tc := ⟨.hbm, 115, rfl⟩
abbrev main_call4_v13 : Ref sig .tc := ⟨.hbm, 116, rfl⟩
abbrev main_call4_cst : Ref sig .tc := ⟨.hbm, 117, rfl⟩
abbrev main_call4_v14 : Ref sig .tc := ⟨.hbm, 118, rfl⟩
abbrev main_v38 : Ref sig .tc := ⟨.hbm, 119, rfl⟩
abbrev main_call5_c : Ref sig .tc := ⟨.hbm, 120, rfl⟩
abbrev main_call5_v0 : Ref sig .tc := ⟨.hbm, 121, rfl⟩
abbrev main_call5_v1 : Ref sig .tc := ⟨.hbm, 122, rfl⟩
abbrev main_call5_c_0 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_call5_v5 : Ref sig .tc := ⟨.hbm, 127, rfl⟩
abbrev main_call5_c_1 : Ref sig .tc := ⟨.hbm, 128, rfl⟩
abbrev main_call5_c_2 : Ref sig .tc := ⟨.hbm, 129, rfl⟩
abbrev main_call5_v6 : Ref sig .tc := ⟨.hbm, 130, rfl⟩
abbrev main_call5_v7 : Ref sig .tc := ⟨.hbm, 131, rfl⟩
abbrev main_call5_v8 : Ref sig .tc := ⟨.hbm, 132, rfl⟩
abbrev main_call5_v9 : Ref sig .tc := ⟨.hbm, 133, rfl⟩
abbrev main_call5_v10 : Ref sig .tc := ⟨.hbm, 134, rfl⟩
abbrev main_call5_v11 : Ref sig .tc := ⟨.hbm, 135, rfl⟩
abbrev main_call5_c_3 : Ref sig .tc := ⟨.hbm, 136, rfl⟩
abbrev main_call5_v12 : Ref sig .tc := ⟨.hbm, 137, rfl⟩
abbrev main_call5_v13 : Ref sig .tc := ⟨.hbm, 138, rfl⟩
abbrev main_call5_cst : Ref sig .tc := ⟨.hbm, 139, rfl⟩
abbrev main_call5_v14 : Ref sig .tc := ⟨.hbm, 140, rfl⟩
abbrev main_v39 : Ref sig .tc := ⟨.hbm, 141, rfl⟩
abbrev main_v40 : Ref sig .tc := ⟨.hbm, 142, rfl⟩
abbrev main_v41 : Ref sig .tc := ⟨.hbm, 143, rfl⟩
abbrev main_v42 : Ref sig .tc := ⟨.hbm, 144, rfl⟩
abbrev main_v43 : Ref sig .tc := ⟨.hbm, 145, rfl⟩
abbrev main_call6_cst : Ref sig .tc := ⟨.hbm, 146, rfl⟩
abbrev main_call6_v0 : Ref sig .tc := ⟨.hbm, 147, rfl⟩
abbrev main_call6_v1 : Ref sig .tc := ⟨.hbm, 148, rfl⟩
abbrev main_call6_v2 : Ref sig .tc := ⟨.hbm, 149, rfl⟩
abbrev main_call6_v3 : Ref sig .tc := ⟨.hbm, 150, rfl⟩
abbrev main_call6_v4 : Ref sig .tc := ⟨.hbm, 151, rfl⟩
abbrev main_call6_v5 : Ref sig .tc := ⟨.hbm, 152, rfl⟩
abbrev main_call6_v6 : Ref sig .tc := ⟨.hbm, 153, rfl⟩
abbrev main_call6_v7 : Ref sig .tc := ⟨.hbm, 154, rfl⟩
abbrev main_call6_v8 : Ref sig .tc := ⟨.hbm, 155, rfl⟩
abbrev main_call6_v9 : Ref sig .tc := ⟨.hbm, 156, rfl⟩
abbrev main_call6_v10 : Ref sig .tc := ⟨.hbm, 157, rfl⟩
abbrev main_call6_v11 : Ref sig .tc := ⟨.hbm, 158, rfl⟩
abbrev main_v44 : Ref sig .tc := ⟨.hbm, 159, rfl⟩
abbrev main_cst_8 : Ref sig .tc := ⟨.hbm, 160, rfl⟩
abbrev main_v45 : Ref sig .tc := ⟨.hbm, 161, rfl⟩
abbrev main_v46 : Ref sig .tc := ⟨.hbm, 162, rfl⟩
abbrev main_v47 : Ref sig .tc := ⟨.hbm, 163, rfl⟩
abbrev main_v48 : Ref sig .tc := ⟨.hbm, 164, rfl⟩
abbrev main_v49 : Ref sig .tc := ⟨.hbm, 165, rfl⟩
abbrev main_v50 : Ref sig .tc := ⟨.hbm, 166, rfl⟩
abbrev main_v51 : Ref sig .tc := ⟨.hbm, 167, rfl⟩
abbrev main_v52 : Ref sig .tc := ⟨.hbm, 168, rfl⟩
abbrev main_v53 : Ref sig .tc := ⟨.hbm, 169, rfl⟩
abbrev main_v54 : Ref sig .tc := ⟨.hbm, 170, rfl⟩
abbrev main_v55 : Ref sig .tc := ⟨.hbm, 171, rfl⟩

abbrev nD : Nat := 1
abbrev τ : Topo := Topo.v7x

variable {F : FTy → Type} [FloatOps F]
-- ==== Proof.Consts.lean ====
/-
  The five 32-bit patterns the two programs write, as the numbers they denote at the ideal instance. Only what the
  argument needs is stated: zero and one exactly, and of the four small constants that each is a positive real.
-/
module

public import Idealize.ShloMosaic.Lib.ValueIdx
public import Idealize.ShloMosaic.PureOps.Ideal.Laws

@[expose] public section

noncomputable section

namespace Cert.Spline

open Idealize.ShloMosaic

/-- The pattern of `0.0`. -/
theorem ofBits_zero : Ideal.ofBits .f32 0x00000000#32 = 0 := by simp [Ideal.ofBits, Ideal.ieee]

/-- The pattern of `1.0`. -/
theorem ofBits_one : Ideal.ofBits .f32 0x3F800000#32 = 1 := by
  simp [Ideal.ofBits, Ideal.ieee, -EReal.coe_mul]; norm_num

/-- The pattern of `+∞`. -/
theorem ofBits_inf : Ideal.ofBits .f32 0x7F800000#32 = ⊤ := by simp [Ideal.ofBits, Ideal.ieee]

/-- The real number a normal pattern denotes: `(2²³ + fraction) · 2^(exponent - 150)`. -/
def small (fr : ℕ) (ex : ℤ) : ℝ := (2 ^ 23 + fr : ℕ) * (2 : ℝ) ^ (ex - 127 - 23)

/-- It is positive. -/
theorem small_pos (fr : ℕ) (ex : ℤ) : 0 < small fr ex := by unfold small; positivity

/-- What is added to every softplus slope (`1e-4`). -/
theorem ofBits_slope : Ideal.ofBits .f32 0x38D1B717#32 = ((small 5355287 113 : ℝ) : EReal) := by
  simp [Ideal.ofBits, Ideal.ieee, small, -EReal.coe_mul]

/-- What is added to the softplus scale (`1e-3`). -/
theorem ofBits_scale : Ideal.ofBits .f32 0x3A83126F#32 = ((small 201327 117 : ℝ) : EReal) := by
  simp [Ideal.ofBits, Ideal.ieee, small, -EReal.coe_mul]

/-- What is added to the total length (`1e-8`). -/
theorem ofBits_total : Ideal.ofBits .f32 0x322BCC77#32 = ((small 2870391 100 : ℝ) : EReal) := by
  simp [Ideal.ofBits, Ideal.ieee, small, -EReal.coe_mul]

/-- The least average slope (`1e-6`). -/
theorem ofBits_floor : Ideal.ofBits .f32 0x358637BD#32 = ((small 407485 107 : ℝ) : EReal) := by
  simp [Ideal.ofBits, Ideal.ieee, small, -EReal.coe_mul]

end Cert.Spline

end
-- ==== Proof.Precondition.lean ====
/-
  The precondition, read at an index: what it says of each argument as extended reals.
-/
module

public import proofs.«01_k».proof.Proof.Consts
public import proofs.«01_k».proof.Pre_ordered_knots
public import Idealize.ShloMosaic.PureOps.Ideal.Laws
public import Idealize.ShloMosaic.Lib.ValueIdx
public import Idealize.ShloMosaic.Lib.Pipeline.Value

@[expose] public section

noncomputable section

namespace Cert.Spline.Precondition

open Cert.Pre_ordered_knots Idealize.ShloMosaic Idealize.ShloMosaic.ValueIdx Cert.Spline

/-- The side conditions the predicate's operations take. -/
theorem facts : Cert.Pre_ordered_knots.Facts := by constructor <;> decide

/-- What a comparison's bit says. -/
theorem of_bit {p : Prop} [Decidable p] (h : BitVec.ofBool (decide p) = 1#1) : p := by
  by_contra hp
  rw [decide_eq_false hp] at h
  exact absurd h (by decide)

/-- A value whose magnitude is below the top is neither infinity. -/
theorem finite {x : EReal} (h : BitVec.ofBool (decide (max x (-x) < Ideal.ofBits .f32 0x7F800000#32)) = 1#1) : x ≠ ⊤ ∧ x ≠ ⊥ := by
  have hx := of_bit h
  rw [ofBits_inf] at hx
  refine ⟨fun e => ?_, fun e => ?_⟩
  · rw [e] at hx; exact absurd (lt_of_le_of_lt (le_max_left _ _) hx) (lt_irrefl _)
  · rw [e] at hx; exact absurd (lt_of_le_of_lt (le_max_right _ _) hx) (by simp)

/-- A value below the top is not the top. -/
theorem below_top {x : EReal} (h : BitVec.ofBool (decide (x < Ideal.ofBits .f32 0x7F800000#32)) = 1#1) : x ≠ ⊤ := by
  have hx := of_bit h
  rw [ofBits_inf] at hx
  exact hx.ne

variable [Facts] (a0 : FVec Ideal S262144x128 .f32) (a1 : FVec Ideal S128x7 .f32) (a2 : FVec Ideal S128x6 .f32)
  (a3 a4 : FVec Ideal S128 .f32) (a5 a6 a7 : FVec Ideal S1x128 .f32) (a8 : FVec Ideal S128x32 .f32)

/-- Every token entry is finite. -/
theorem tokens (h : (fn a0 a1 a2 a3 a4 a5 a6 a7 a8).1 = fun _ => 1#1) (i : S262144x128.Idx) : a0 i ≠ ⊤ ∧ a0 i ≠ ⊥ :=
  finite (congrFun h i)

/-- Every knot is finite. -/
theorem knots (h : (fn a0 a1 a2 a3 a4 a5 a6 a7 a8).2.1 = fun _ => 1#1) (i : S128x7.Idx) : a1 i ≠ ⊤ ∧ a1 i ≠ ⊥ :=
  finite (congrFun h i)

/-- The knots of a dimension do not descend. -/
theorem ascending (h : (fn a0 a1 a2 a3 a4 a5 a6 a7 a8).2.2.1 = fun _ => 1#1) (d : Fin 128) (j : Fin 6) :
    a1 (ix2 d j.castSucc) ≤ a1 (ix2 d j.succ) := by
  have e : BitVec.ofBool (decide (extractStridedSlice S128x6 ![0, 0] a1 Facts.slices_S128x7_S128x6_0_0 (ix2 d j)
      ≤ extractStridedSlice S128x6 ![0, 1] a1 Facts.slices_S128x7_S128x6_0_1 (ix2 d j))) = 1#1 := congrFun h (ix2 d j)
  rw [extractStridedSlice_apply ![0, 0] a1 Facts.slices_S128x7_S128x6_0_0 (ix2 d j) (ix2 d j.castSucc) fun a => by
      match a with
      | ⟨0, _⟩ => exact (Nat.zero_add d.val).symm
      | ⟨1, _⟩ => exact (Nat.zero_add j.val).symm,
    extractStridedSlice_apply ![0, 1] a1 Facts.slices_S128x7_S128x6_0_1 (ix2 d j) (ix2 d j.succ) fun a => by
      match a with
      | ⟨0, _⟩ => exact (Nat.zero_add d.val).symm
      | ⟨1, _⟩ => exact Nat.add_comm j.val 1] at e
  exact of_bit e

/-- No raw slope is the top. -/
theorem slopes (h : (fn a0 a1 a2 a3 a4 a5 a6 a7 a8).2.2.2.1 = fun _ => 1#1) (i : S128x6.Idx) : a2 i ≠ ⊤ :=
  below_top (congrFun h i)

/-- No raw scale is the top. -/
theorem scales (h : (fn a0 a1 a2 a3 a4 a5 a6 a7 a8).2.2.2.2.1 = fun _ => 1#1) (i : S128.Idx) : a3 i ≠ ⊤ :=
  below_top (congrFun h i)

/-- Every centre is finite. -/
theorem centres (h : (fn a0 a1 a2 a3 a4 a5 a6 a7 a8).2.2.2.2.2.1 = fun _ => 1#1) (i : S1x128.Idx) : a5 i ≠ ⊤ ∧ a5 i ≠ ⊥ :=
  finite (congrFun h i)

/-- Every spread is positive. -/
theorem spreads_pos (h : (fn a0 a1 a2 a3 a4 a5 a6 a7 a8).2.2.2.2.2.2.1 = fun _ => 1#1) (i : S1x128.Idx) : 0 < a6 i := by
  have e : BitVec.ofBool (decide (Ideal.ofBits .f32 0x00000000#32 < a6 i)) = 1#1 := congrFun h i
  have p := of_bit e
  rwa [ofBits_zero] at p

/-- No spread is the top. -/
theorem spreads_top (h : (fn a0 a1 a2 a3 a4 a5 a6 a7 a8).2.2.2.2.2.2.2.1 = fun _ => 1#1) (i : S1x128.Idx) : a6 i ≠ ⊤ :=
  below_top (congrFun h i)

/-- Every entry of the projection is finite. -/
theorem weights (h : (fn a0 a1 a2 a3 a4 a5 a6 a7 a8).2.2.2.2.2.2.2.2 = fun _ => 1#1) (i : S128x32.Idx) : a8 i ≠ ⊤ ∧ a8 i ≠ ⊥ :=
  finite (congrFun h i)

end Cert.Spline.Precondition

end
-- ==== Proof.Real.lean ====
/-
  The real mathematics of the claim, with no program in it: a piecewise linear curve through ordered knots, evaluated
  by finding the segment that holds the point (as the reference does), is the sum of its first line and of one hinge
  per inner knot, each weighing the change of slope there (as the kernel does).
-/
module

public import Idealize.ShloMosaic.PureOps.Ideal

@[expose] public section

noncomputable section

namespace Cert.Spline

/-- The segment a count of knots below the point names: the count brought into `1 … 6`, less one. -/
def pick (n : ℕ) : Fin 6 := ⟨min 6 (max 1 n) - 1, by omega⟩

/-- The knots below a point are the first so many, when the knots are in order. -/
theorem below_initial (k : Fin 7 → ℝ) (hk : ∀ j : Fin 6, k j.castSucc ≤ k j.succ) (x : ℝ) :
    ∃ n, n ≤ 7 ∧ ∀ j : Fin 7, k j < x ↔ j.val < n := by
  have h0 : k 0 ≤ k 1 := hk 0
  have h1 : k 1 ≤ k 2 := hk 1
  have h2 : k 2 ≤ k 3 := hk 2
  have h3 : k 3 ≤ k 4 := hk 3
  have h4 : k 4 ≤ k 5 := hk 4
  have h5 : k 5 ≤ k 6 := hk 5
  by_cases c6 : k 6 < x
  · refine ⟨7, le_refl _, fun j => ⟨fun _ => j.isLt, fun _ => ?_⟩⟩
    fin_cases j <;> simp <;> linarith
  have c6 := not_lt.mp c6
  by_cases c5 : k 5 < x
  · refine ⟨6, by omega, fun j => ?_⟩
    fin_cases j <;> simp <;> linarith
  have c5 := not_lt.mp c5
  by_cases c4 : k 4 < x
  · refine ⟨5, by omega, fun j => ?_⟩
    fin_cases j <;> simp <;> linarith
  have c4 := not_lt.mp c4
  by_cases c3 : k 3 < x
  · refine ⟨4, by omega, fun j => ?_⟩
    fin_cases j <;> simp <;> linarith
  have c3 := not_lt.mp c3
  by_cases c2 : k 2 < x
  · refine ⟨3, by omega, fun j => ?_⟩
    fin_cases j <;> simp <;> linarith
  have c2 := not_lt.mp c2
  by_cases c1 : k 1 < x
  · refine ⟨2, by omega, fun j => ?_⟩
    fin_cases j <;> simp <;> linarith
  have c1 := not_lt.mp c1
  by_cases c0 : k 0 < x
  · refine ⟨1, by omega, fun j => ?_⟩
    fin_cases j <;> simp <;> linarith
  have c0 := not_lt.mp c0
  refine ⟨0, by omega, fun j => ?_⟩
  fin_cases j <;> simp <;> linarith

/-- The curve by segments is the curve by hinges. -/
theorem segments_eq_hinges (k : Fin 7 → ℝ) (hk : ∀ j : Fin 6, k j.castSucc ≤ k j.succ) (m : Fin 6 → ℝ) (x : ℝ)
    (i : Fin 6) (hi : i = pick (Finset.univ.filter fun j : Fin 7 => k j < x).card) :
    (∑ j : Fin 6, if j.val < i.val then m j * (k j.succ - k j.castSucc) else 0) + m i * (x - k i.castSucc)
      = m 0 * (x - k 0) + (m 1 - m 0) * max (x - k 1) 0 + (m 2 - m 1) * max (x - k 2) 0
        + (m 3 - m 2) * max (x - k 3) 0 + (m 4 - m 3) * max (x - k 4) 0 + (m 5 - m 4) * max (x - k 5) 0 := by
  obtain ⟨n, hn, hb⟩ := below_initial k hk x
  have hcard : (Finset.univ.filter fun j : Fin 7 => k j < x).card = n := by
    rw [Finset.filter_congr (fun j _ => hb j)]
    interval_cases n <;> decide
  rw [hcard] at hi
  have hpos : ∀ j : Fin 7, j.val < n → max (x - k j) 0 = x - k j := fun j h =>
    max_eq_left (by have := (hb j).mpr h; linarith)
  have hneg : ∀ j : Fin 7, ¬ j.val < n → max (x - k j) 0 = 0 := fun j h =>
    max_eq_right (by have := mt (hb j).mp h; linarith)
  have e : ∀ j : Fin 7, max (x - k j) 0 = if j.val < n then x - k j else 0 := fun j => by
    split_ifs with h
    · exact hpos j h
    · exact hneg j h
  rw [e 1, e 2, e 3, e 4, e 5, Fin.sum_univ_six]
  subst hi
  interval_cases n <;> simp [pick, Fin.ext_iff] <;> ring

/-- The reference's curve at `x`, by the segment that holds it. -/
def curve (k : Fin 7 → ℝ) (m : Fin 6 → ℝ) (x : ℝ) : ℝ :=
  let i := pick (Finset.univ.filter fun j : Fin 7 => k j < x).card
  (∑ j : Fin 6, if j.val < i.val then m j * (k j.succ - k j.castSucc) else 0) + m i * (x - k i.castSucc)

/-- The kernel's hinges at the raw coordinate `v`, the slopes being `a` and the knots `t`. -/
def hingesAt (a t : Fin 6 → ℝ) (v : ℝ) : ℝ :=
  a 0 * v + (a 1 - a 0) * max v (t 1) + (a 2 - a 1) * max v (t 2) + (a 3 - a 2) * max v (t 3)
    + (a 4 - a 3) * max v (t 4) + (a 5 - a 4) * max v (t 5)

/-- What the hinges hold at the knots. -/
def atKnots (a t : Fin 6 → ℝ) : ℝ :=
  a 0 * t 0 + (a 1 - a 0) * t 1 + (a 2 - a 1) * t 2 + (a 3 - a 2) * t 3 + (a 4 - a 3) * t 4 + (a 5 - a 4) * t 5

/-- The same curve as the kernel has it: the hinges moved to the raw coordinate `v = x·s + u` and weighed by the slopes over
    `s`, less the constant the hinges leave at the knots. -/
theorem curve_raw (k : Fin 7 → ℝ) (hk : ∀ j : Fin 6, k j.castSucc ≤ k j.succ) (m : Fin 6 → ℝ) (v s u g : ℝ) (hs : 0 < s) :
    curve k m ((v - u) / s) * g
      = hingesAt (fun j => m j * (1 / s * g)) (fun j => k j.castSucc * s + u) v
        - atKnots (fun j => m j * (1 / s * g)) (fun j => k j.castSucc * s + u) := by
  have e : ∀ a : ℝ, max v (a * s + u) = s * max ((v - u) / s - a) 0 + (a * s + u) := fun a => by
    rcases le_total v (a * s + u) with h | h
    · rw [max_eq_right h, max_eq_right (by rw [sub_nonpos, div_le_iff₀ hs]; linarith)]; ring
    · rw [max_eq_left h, max_eq_left (by rw [sub_nonneg, le_div_iff₀ hs]; linarith)]; field_simp; ring
  rw [curve, segments_eq_hinges k hk m _ _ rfl, hingesAt, atKnots]
  simp only [e]
  rw [show (1 : Fin 6).castSucc = (1 : Fin 7) from rfl, show (2 : Fin 6).castSucc = (2 : Fin 7) from rfl,
    show (3 : Fin 6).castSucc = (3 : Fin 7) from rfl, show (4 : Fin 6).castSucc = (4 : Fin 7) from rfl,
    show (5 : Fin 6).castSucc = (5 : Fin 7) from rfl, show (0 : Fin 6).castSucc = (0 : Fin 7) from rfl]
  field_simp
  ring

end Cert.Spline

end
-- ==== Proof.Curve.lean ====
/-
  One dimension of the computation on the extended reals: the quantities both programs form from a dimension's seven
  knots and six raw slopes, the reference's value of a point, the kernel's value of a point, and their equality when
  the knots are ordered reals.
-/
module

public import proofs.«01_k».proof.Proof.Consts
public import proofs.«01_k».proof.Proof.Real

@[expose] public section

noncomputable section

namespace Cert.Spline

open Idealize.ShloMosaic

/-! ## The quantities -/

/-- The softplus `log (1 + eˣ)` in the stable form jax prints. -/
def softplus (x : EReal) : EReal := max x 0 + Ideal.log1p (Ideal.exp (-(max x (-x))))

/-- The length of segment `j`. -/
def seg (X : Fin 7 → EReal) (j : Fin 6) : EReal := X j.succ - X j.castSucc

/-- The slope of segment `j` before normalisation. -/
def raw (D : Fin 6 → EReal) (j : Fin 6) : EReal := softplus (D j) + Ideal.ofBits .f32 0x38D1B717#32

/-- The average slope, kept from below. -/
def avg (X : Fin 7 → EReal) (D : Fin 6 → EReal) : EReal :=
  max (Ideal.div (∑ j, raw D j * seg X j) ((∑ j, seg X j) + Ideal.ofBits .f32 0x322BCC77#32))
    (Ideal.ofBits .f32 0x358637BD#32)

/-- The normalised slope of segment `j`. -/
def slope (X : Fin 7 → EReal) (D : Fin 6 → EReal) (j : Fin 6) : EReal := Ideal.div (raw D j) (avg X D)

/-- The scale of the dimension. -/
def gain (r : EReal) : EReal := softplus r + Ideal.ofBits .f32 0x3A83126F#32

/-- The count of knots below a point. -/
def below (X : Fin 7 → EReal) (x : EReal) : ℕ := (Finset.univ.filter fun j => X j < x).card

/-- The curve's height at the left end of segment `i`. -/
def height (X : Fin 7 → EReal) (D : Fin 6 → EReal) (i : ℕ) : EReal :=
  ∑ j : Fin 6, if j.val < i then slope X D j * seg X j else 0

/-- The reference's value of the raw coordinate `v`. -/
def refValue (X : Fin 7 → EReal) (D : Fin 6 → EReal) (r sh u s mu v : EReal) : EReal :=
  let x := Ideal.div (v - u) s
  let i := pick (below X x)
  ((height X D i.val + slope X D i * (x - X i.castSucc)) * gain r + sh) - mu

/-- The slope of segment `j` in the raw coordinate, scaled. -/
def rate (X : Fin 7 → EReal) (D : Fin 6 → EReal) (r s : EReal) (j : Fin 6) : EReal :=
  slope X D j * (Ideal.div 1 s * gain r)

/-- The knots in the raw coordinate. -/
def knot (X : Fin 7 → EReal) (u s : EReal) (j : Fin 7) : EReal := X j * s + u

/-- The weight of hinge `j`: the first slope, then the changes of slope. -/
def weight (X : Fin 7 → EReal) (D : Fin 6 → EReal) (r s : EReal) (j : Fin 6) : EReal :=
  if j.val = 0 then rate X D r s j else rate X D r s j - rate X D r s (j - 1)

/-- The kernel's hinges at the raw coordinate `v`. -/
def hinges (X : Fin 7 → EReal) (D : Fin 6 → EReal) (r u s v : EReal) : EReal :=
  weight X D r s 0 * v + weight X D r s 1 * max v (knot X u s 1) + weight X D r s 2 * max v (knot X u s 2)
    + weight X D r s 3 * max v (knot X u s 3) + weight X D r s 4 * max v (knot X u s 4)
    + weight X D r s 5 * max v (knot X u s 5)

/-- The kernel's constant of the dimension. -/
def offset (X : Fin 7 → EReal) (D : Fin 6 → EReal) (r sh u s mu : EReal) : EReal :=
  sh - mu - ∑ j : Fin 6, weight X D r s j * knot X u s j.castSucc

/-! ## They are real -/

/-- The maximum of two reals is a real. -/
theorem coe_max (a b : ℝ) : ((max a b : ℝ) : EReal) = max (a : EReal) (b : EReal) :=
  EReal.coe_strictMono.monotone.map_max

/-- Below the top the softplus is a real that is not negative. -/
theorem softplus_real {x : EReal} (hx : x ≠ ⊤) : ∃ r : ℝ, softplus x = r ∧ 0 ≤ r := by
  have hlog : ∀ a : ℝ, 0 ≤ a → Ideal.log1p (a : EReal) = ((Real.log (1 + a) : ℝ) : EReal) := fun a ha => by
    unfold Ideal.log1p
    rw [show (1 : EReal) + (a : EReal) = ((1 + a : ℝ) : EReal) by push_cast; rfl]
    show (if 1 + a ≤ 0 then (⊥ : EReal) else ((Real.log (1 + a) : ℝ) : EReal)) = _
    rw [if_neg (by linarith)]
  induction x with
  | top => exact absurd rfl hx
  | bot =>
    refine ⟨0, ?_, le_refl _⟩
    have : Ideal.exp (-(max (⊥ : EReal) (-⊥))) = ((0 : ℝ) : EReal) := by
      rw [show -(max (⊥ : EReal) (-⊥)) = ⊥ by simp]; rfl
    rw [softplus, this, hlog 0 (le_refl _)]; simp
  | coe x =>
    refine ⟨max x 0 + Real.log (1 + Real.exp (-(max x (-x)))), ?_, ?_⟩
    · have : Ideal.exp (-(max (x : EReal) (-(x : EReal)))) = ((Real.exp (-(max x (-x))) : ℝ) : EReal) := by
        rw [← EReal.coe_neg, ← coe_max, ← EReal.coe_neg]; rfl
      rw [softplus, this, hlog _ (Real.exp_pos _).le, ← EReal.coe_zero, ← coe_max, ← EReal.coe_add]
    · have h1 : 0 ≤ Real.log (1 + Real.exp (-(max x (-x)))) := Real.log_nonneg (by linarith [Real.exp_pos (-(max x (-x)))])
      have h2 : 0 ≤ max x 0 := le_max_right _ _
      linarith

/-- A quotient of reals by a real that is not zero. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A finite sum of reals. -/
theorem sum_real {n : ℕ} (f : Fin n → ℝ) : (∑ j, (f j : EReal)) = ((∑ j, f j : ℝ) : EReal) := by
  induction n with
  | zero => simp
  | succ n ih => rw [Fin.sum_univ_castSucc, Fin.sum_univ_castSucc, ih, EReal.coe_add]

/-- The scale is real where its raw value is not the top. -/
theorem gain_real {r : EReal} (hr : r ≠ ⊤) : ∃ g : ℝ, gain r = g := by
  obtain ⟨p, hp, _⟩ := softplus_real hr
  exact ⟨p + small 201327 117, by rw [gain, hp, ofBits_scale, EReal.coe_add]⟩

/-- The slopes are real: the total length is not negative, so the average's denominator is positive. -/
theorem slope_real (k : Fin 7 → ℝ) (hk : ∀ j : Fin 6, k j.castSucc ≤ k j.succ) (D : Fin 6 → EReal) (hD : ∀ j, D j ≠ ⊤) :
    ∃ m : Fin 6 → ℝ, ∀ j, slope (fun j => (k j : EReal)) D j = m j := by
  choose p hp hp0 using fun j => softplus_real (hD j)
  have hraw : ∀ j, raw D j = ((p j + small 5355287 113 : ℝ) : EReal) := fun j => by
    rw [raw, hp, ofBits_slope, EReal.coe_add]
  have hseg : ∀ j, seg (fun j => (k j : EReal)) j = ((k j.succ - k j.castSucc : ℝ) : EReal) := fun j => by
    rw [seg, EReal.coe_sub]
  have hden : 0 < (∑ j : Fin 6, (k j.succ - k j.castSucc)) + small 2870391 100 :=
    add_pos_of_nonneg_of_pos (Finset.sum_nonneg fun j _ => by linarith [hk j]) (small_pos _ _)
  have havg : avg (fun j => (k j : EReal)) D
      = ((max ((∑ j, (p j + small 5355287 113) * (k j.succ - k j.castSucc))
          / ((∑ j : Fin 6, (k j.succ - k j.castSucc)) + small 2870391 100)) (small 407485 107) : ℝ) : EReal) := by
    simp only [avg, hraw, hseg, ofBits_total, ofBits_floor, ← EReal.coe_mul]
    rw [sum_real, sum_real, ← EReal.coe_add, div_real _ _ hden.ne', coe_max]
  exact ⟨_, fun j => by
    rw [slope, hraw, havg, div_real _ _ (lt_of_lt_of_le (small_pos _ _) (le_max_right _ _)).ne']⟩

/-- Multiplying by a real distributes over a sum one of whose terms is real. -/
theorem add_real_mul (a : EReal) (b w : ℝ) : (a + b) * w = a * w + ((b * w : ℝ) : EReal) := by
  induction a with
  | coe a => rw [← EReal.coe_add, ← EReal.coe_mul, ← EReal.coe_mul, ← EReal.coe_add]; congr 1; ring
  | top =>
    rw [EReal.top_add_coe]
    rcases lt_trichotomy w 0 with h | h | h
    · rw [EReal.top_mul_coe_of_neg h, EReal.bot_add]
    · subst h; simp
    · rw [EReal.top_mul_coe_of_pos h, EReal.top_add_coe]
  | bot =>
    rw [EReal.bot_add]
    rcases lt_trichotomy w 0 with h | h | h
    · rw [EReal.bot_mul_coe_of_neg h, EReal.top_add_coe]
    · subst h; simp
    · rw [EReal.bot_mul_coe_of_pos h, EReal.bot_add]

/-! ## The equation of one dimension -/

/-- The kernel's hinges and constant, each weighed by the real `w`, sum to the reference's value weighed by `w`. The shift
    and the mean may be anything. -/
theorem dimension (X : Fin 7 → EReal) (D : Fin 6 → EReal) (r sh u s mu v w : EReal)
    (hX : ∀ j, X j ≠ ⊤ ∧ X j ≠ ⊥) (hord : ∀ j : Fin 6, X j.castSucc ≤ X j.succ) (hD : ∀ j, D j ≠ ⊤) (hr : r ≠ ⊤)
    (hu : u ≠ ⊤ ∧ u ≠ ⊥) (hs : 0 < s ∧ s ≠ ⊤) (hv : v ≠ ⊤ ∧ v ≠ ⊥) (hw : w ≠ ⊤ ∧ w ≠ ⊥) :
    hinges X D r u s v * w + offset X D r sh u s mu * w = refValue X D r sh u s mu v * w := by
  lift X to Fin 7 → ℝ using fun j => hX j with k
  lift u to ℝ using hu
  lift v to ℝ using hv
  lift w to ℝ using hw
  lift s to ℝ using ⟨hs.2, (lt_trans EReal.bot_lt_zero hs.1).ne'⟩
  have hk : ∀ j : Fin 6, k j.castSucc ≤ k j.succ := fun j => by exact_mod_cast hord j
  have hs : 0 < s := by exact_mod_cast hs.1
  obtain ⟨m, hm⟩ := slope_real k hk D hD
  obtain ⟨g, hg⟩ := gain_real hr
  have hrate : ∀ j, rate (fun j => (k j : EReal)) D r s j = ((m j * (1 / s * g) : ℝ) : EReal) := fun j => by
    rw [rate, hm, hg, ← EReal.coe_one, div_real _ _ hs.ne', EReal.coe_mul, EReal.coe_mul]
  have hknot : ∀ j, knot (fun j => (k j : EReal)) u s j = ((k j * s + u : ℝ) : EReal) := fun j => by
    rw [knot, EReal.coe_add, EReal.coe_mul]
  have w0 : weight (fun j => (k j : EReal)) D r s 0 = ((m 0 * (1 / s * g) : ℝ) : EReal) := by
    rw [weight, if_pos (by decide), hrate]
  have w1 : weight (fun j => (k j : EReal)) D r s 1 = ((m 1 * (1 / s * g) - m 0 * (1 / s * g) : ℝ) : EReal) := by
    rw [weight, if_neg (by decide), hrate, hrate, EReal.coe_sub]; rfl
  have w2 : weight (fun j => (k j : EReal)) D r s 2 = ((m 2 * (1 / s * g) - m 1 * (1 / s * g) : ℝ) : EReal) := by
    rw [weight, if_neg (by decide), hrate, hrate, EReal.coe_sub]; rfl
  have w3 : weight (fun j => (k j : EReal)) D r s 3 = ((m 3 * (1 / s * g) - m 2 * (1 / s * g) : ℝ) : EReal) := by
    rw [weight, if_neg (by decide), hrate, hrate, EReal.coe_sub]; rfl
  have w4 : weight (fun j => (k j : EReal)) D r s 4 = ((m 4 * (1 / s * g) - m 3 * (1 / s * g) : ℝ) : EReal) := by
    rw [weight, if_neg (by decide), hrate, hrate, EReal.coe_sub]; rfl
  have w5 : weight (fun j => (k j : EReal)) D r s 5 = ((m 5 * (1 / s * g) - m 4 * (1 / s * g) : ℝ) : EReal) := by
    rw [weight, if_neg (by decide), hrate, hrate, EReal.coe_sub]; rfl
  have hx : Ideal.div ((v : EReal) - u) s = (((v - u) / s : ℝ) : EReal) := by
    rw [← EReal.coe_sub, div_real _ _ hs.ne']
  have hbelow : below (fun j => (k j : EReal)) (((v - u) / s : ℝ) : EReal)
      = (Finset.univ.filter fun j : Fin 7 => k j < (v - u) / s).card := by
    simp only [below, EReal.coe_lt_coe_iff]
  have hheight : ∀ i, height (fun j => (k j : EReal)) D i
      = ((∑ j : Fin 6, if j.val < i then m j * (k j.succ - k j.castSucc) else 0 : ℝ) : EReal) := fun i => by
    rw [height, ← sum_real]
    refine Finset.sum_congr rfl fun j _ => ?_
    rw [hm, seg, ← EReal.coe_sub, ← EReal.coe_mul]
    split_ifs <;> rfl
  have href : refValue (fun j => (k j : EReal)) D r sh u s mu v
      = (sh - mu) + ((curve k m ((v - u) / s) * g : ℝ) : EReal) := by
    simp only [refValue, curve]
    rw [hx, hbelow, hheight, hm, hg, ← EReal.coe_sub, ← EReal.coe_mul, ← EReal.coe_add, ← EReal.coe_mul,
      sub_eq_add_neg _ mu, add_assoc, ← sub_eq_add_neg, add_comm]
  have hhin : hinges (fun j => (k j : EReal)) D r u s v
      = ((hingesAt (fun j => m j * (1 / s * g)) (fun j => k j.castSucc * s + u) v : ℝ) : EReal) := by
    rw [hinges, w0, w1, w2, w3, w4, w5, hknot, hknot, hknot, hknot, hknot]
    simp only [← coe_max, ← EReal.coe_mul, ← EReal.coe_add]
    rfl
  have hoff : offset (fun j => (k j : EReal)) D r sh u s mu
      = (sh - mu) + ((-atKnots (fun j => m j * (1 / s * g)) (fun j => k j.castSucc * s + u) : ℝ) : EReal) := by
    rw [offset, Fin.sum_univ_six, w0, w1, w2, w3, w4, w5, hknot, hknot, hknot, hknot, hknot, hknot, EReal.coe_neg,
      ← sub_eq_add_neg]
    simp only [← EReal.coe_mul, ← EReal.coe_add]
    rfl
  rw [href, curve_raw k hk m v s u g hs, hhin, hoff, add_real_mul, add_real_mul, ← EReal.coe_mul, add_left_comm,
    ← EReal.coe_add]
  congr 2
  ring

end Cert.Spline

end
-- ==== Proof.KernelBlock.lean ====
/-
  What one grid point of the kernel computes: the vectors its body forms from the blocks it loads, read at an index, down to
  the block it stores.
-/
module

public import proofs.«01_k».proof.Proof.Curve
public import proofs.«01_k».proof.Proof.Gen.KernelIdeal.Frame
public import Idealize.ShloMosaic.Lib.Pipeline.Value

@[expose] public section

noncomputable section

namespace Cert.Spline.Kernel

open Cert.KernelIdeal Cert.KernelIdeal.Gen Idealize.ShloMosaic Idealize.ShloMosaic.ValueIdx Cert.Spline

/-! ## Layout operations on matrices, read at an index -/

/-- A row broadcast down a matrix. -/
theorem row_apply {α : Type} {n c : ℕ} (x : (⟨2, ![1, c]⟩ : Shape).Idx → α)
    (h : (⟨2, ![1, c]⟩ : Shape).Broadcasts ⟨2, ![n, c]⟩) (r : Fin n) (d : Fin c) :
    broadcastTo ⟨2, ![n, c]⟩ x h (ix2 r d) = x (ix2 0 d) := by
  refine broadcastTo_apply x h _ _ fun a => ?_
  match a with
  | ⟨0, _⟩ => rfl
  | ⟨1, _⟩ =>
    show d.val = if c = 1 then 0 else d.val
    split_ifs with hc
    · have := d.isLt; omega
    · rfl

/-- A run of rows from row `o`. -/
theorem rows_apply {α : Type} {n n' c : ℕ} (o : ℕ) (x : (⟨2, ![n, c]⟩ : Shape).Idx → α)
    (h : (⟨2, ![n, c]⟩ : Shape).Slices ![o, 0] ⟨2, ![n', c]⟩) (r : Fin n') (d : Fin c) (k : Fin n) (hk : k.val = o + r.val) :
    extractStridedSlice ⟨2, ![n', c]⟩ ![o, 0] x h (ix2 r d) = x (ix2 k d) := by
  refine extractStridedSlice_apply _ x h _ _ fun a => ?_
  match a with
  | ⟨0, _⟩ => exact hk
  | ⟨1, _⟩ => exact (Nat.zero_add _).symm

/-- A vector as a one-row matrix. -/
theorem asRow_apply {α : Type} {c : ℕ} (x : (⟨1, ![c]⟩ : Shape).Idx → α)
    (h : (⟨1, ![c]⟩ : Shape).ShapeCasts ⟨2, ![1, c]⟩) (r : Fin 1) (d : Fin c) :
    shapeCast ⟨2, ![1, c]⟩ x h (ix2 r d) = x (ix1 d) :=
  (shapeCast_addUnit_apply ![c] x h (ix2 r d)).trans (congrArg x (funext fun a => by
    match a with
    | ⟨0, _⟩ => rfl))

/-- The sum down the columns of a matrix. -/
theorem colSum_apply (x : FVec Ideal S6x128 .f32) (h : S6x128.Reduces [0] S128) (d : Fin 128) :
    multiReduction .add [0] S128 x 0x00000000#32 h (.inl rfl) rfl (ix1 d) = ∑ j : Fin 6, x (ix2 j d) :=
  (Ideal.multiReduction_add_single x _ h _ _ _).trans (Finset.sum_congr rfl fun j _ => congrArg x (by
    funext a
    match a with
    | ⟨0, _⟩ => rfl
    | ⟨1, _⟩ => rfl))

/-! ## The body's softplus -/

/-- No extended real differs from itself, so the guard never fires. -/
theorem guard (x : EReal) : Ideal.cmp .one x x = 0#1 := by simp [Ideal.cmp]

/-- The body's form of the softplus, at one entry. -/
theorem softplus_eq (x z : EReal) (hz : z = 0) :
    Scalar.select (Ideal.cmp .one (x - z) (x - z)) (x + z) (max x z + Ideal.log1p (Ideal.exp (z - max (x - z) (-(x - z)))))
      = softplus x := by
  subst hz
  rw [guard, select_zero, sub_zero, zero_sub, softplus]

/-- The softplus of a whole vector, as the body prints it. -/
theorem softVec_apply {s : Shape} (x : FVec Ideal s .f32) (i : s.Idx) :
    select (cmpf .one (subf x (broadcast s (FloatOps.ofBits .f32 0x00000000#32))) (subf x (broadcast s (FloatOps.ofBits .f32 0x00000000#32))))
      (addf x (broadcast s (FloatOps.ofBits .f32 0x00000000#32)))
      (addf (maximumf x (broadcast s (FloatOps.ofBits .f32 0x00000000#32)))
        (log1p (exp (subf (broadcast s (FloatOps.ofBits .f32 0x00000000#32))
          (absf (subf x (broadcast s (FloatOps.ofBits .f32 0x00000000#32)))))))) i = softplus (x i) :=
  softplus_eq (x i) _ ofBits_zero

/-! ## The vectors of the body -/

/-- The knots, cast to their own shape. -/
theorem pay2_eq (v0 : Vec Ideal S7x128 .f32) : k0_pay2 v0 = v0 := shapeCast_self v0 _

/-- The normalised slopes. -/
theorem pay3_apply (v0 : Vec Ideal S7x128 .f32) (v5 : Vec Ideal S6x128 .f32) (j : Fin 6) (d : Fin 128) :
    k0_pay3 v0 v5 (ix2 j d) = slope (fun k => v0 (ix2 k d)) (fun k => v5 (ix2 k d)) j := by
  have hseg : ∀ j : Fin 6, subf (extractStridedSlice S6x128 ![1, 0] (k0_pay2 v0) slices_S7x128_o1_0_S6x128)
      (extractStridedSlice S6x128 ![0, 0] (k0_pay2 v0) slices_S7x128_o0_0_S6x128) (ix2 j d)
      = seg (fun k => v0 (ix2 k d)) j := fun j => by
    rw [subf_apply, pay2_eq, rows_apply 1 v0 _ j d j.succ (by rw [Fin.val_succ, add_comm]),
      rows_apply 0 v0 _ j d j.castSucc (by rw [Fin.val_castSucc, zero_add]), seg]
  unfold k0_pay3
  dsimp only
  simp only [divf_apply, row_apply, maximumf_apply, addf_apply, asRow_apply, softVec_apply, shapeCast_self]
  refine congrArg₂ Ideal.div rfl (congrArg₂ max (congrArg₂ Ideal.div ?_ (congrArg₂ (· + ·) ?_ rfl)) rfl)
  · refine (colSum_apply _ _ d).trans (Finset.sum_congr rfl fun j _ => ?_)
    rw [mulf_apply, hseg, addf_apply, softVec_apply]
    rfl
  · exact (colSum_apply _ _ d).trans (Finset.sum_congr rfl fun j _ => hseg j)

/-- The knots in the raw coordinate. -/
theorem pay10_apply (v1 : FVec Ideal S7x128 .f32) (v53 v61 : Vec Ideal S1x128 .f32) (j : Fin 7) (d : Fin 128) :
    k0_pay10 v1 v53 v61 (ix2 j d) = knot (fun k => v1 (ix2 k d)) (v61 (ix2 0 d)) (v53 (ix2 0 d)) j := by
  unfold k0_pay10
  rw [addf_apply, mulf_apply, row_apply, row_apply, knot]

/-- The weights of the hinges. -/
theorem pay11_apply (v34 : FVec Ideal S6x128 .f32) (v35 v53 : Vec Ideal S1x128 .f32) (X : Fin 7 → EReal) (D : Fin 6 → EReal)
    (d : Fin 128) (h34 : ∀ j, v34 (ix2 j d) = slope X D j) (j : Fin 6) :
    k0_pay11 v34 (k0_pay5 v35) (k0_pay7 v35) (k0_pay8 v35) (k0_pay9 v35) v53 (ix2 j d)
      = weight X D (v35 (ix2 0 d)) (v53 (ix2 0 d)) j := by
  unfold k0_pay11 k0_pay5 k0_pay7 k0_pay8 k0_pay9 k0_pay6 k0_pay4
  dsimp only
  rw [shapeCast_self]
  generalize hA : mulf v34 _ = A
  have hA' : ∀ j, A (ix2 j d) = rate X D (v35 (ix2 0 d)) (v53 (ix2 0 d)) j := fun j => by
    rw [← hA, mulf_apply, row_apply, mulf_apply, divf_apply, addf_apply, softVec_apply, h34, rate, gain]
    show _ * (Ideal.div (Ideal.ofBits .f32 0x3F800000#32) _ * _) = _
    rw [ofBits_one]
    rfl
  have hdiff : ∀ i : Fin 5, subf (extractStridedSlice S5x128 ![1, 0] A slices_S6x128_o1_0_S5x128)
      (extractStridedSlice S5x128 ![0, 0] A slices_S6x128_o0_0_S5x128) (ix2 i d)
      = rate X D (v35 (ix2 0 d)) (v53 (ix2 0 d)) i.succ - rate X D (v35 (ix2 0 d)) (v53 (ix2 0 d)) i.castSucc := fun i => by
    rw [subf_apply, rows_apply 1 A _ i d i.succ (by rw [Fin.val_succ, add_comm]),
      rows_apply 0 A _ i d i.castSucc (by rw [Fin.val_castSucc, zero_add]), hA', hA']
  by_cases hj : j.val = 0
  · rw [weight, if_pos hj, ← hA']
    refine (concatenate_pair_apply_left (t := S6x128) (s₁ := S1x128) (s₂ := S5x128) 0 _ _ _ (ix2 j d) rfl (ix2 (0 : Fin 1) d) fun b => ?_).trans
      (rows_apply 0 A _ (0 : Fin 1) d j (by simp [hj]))
    match b with
    | ⟨0, _⟩ => exact hj.symm
    | ⟨1, _⟩ => rfl
  · have hlt := j.isLt
    rw [weight, if_neg hj]
    refine (concatenate_pair_apply_right (t := S6x128) (s₁ := S1x128) (s₂ := S5x128) 0 _ _ _ (ix2 j d) rfl rfl (ix2 (⟨j.val - 1, by omega⟩ : Fin 5) d)
      (fun b hb => ?_) ?_).trans ((hdiff _).trans ?_)
    · match b with
      | ⟨0, _⟩ => exact absurd rfl hb
      | ⟨1, _⟩ => rfl
    · show j.val - 1 + 1 = j.val
      omega
    · congr 2
      · exact Fin.ext (by simp; omega)
      · exact Fin.ext (by simp [Fin.sub_def]; omega)

/-! ## The two products -/

/-- The product of the whole block, from zero. -/
theorem product_apply (a : FVec Ideal S16384x128 .f32) (b : FVec Ideal S128x32 .f32) (n : Fin 16384) (c : Fin 32) :
    matmul dot_S16384x128_S128x32_S16384x32_1_0_0_1_n_n none a b (constant S16384x32 .f32 0x00000000#32) (ix2 n c)
      = ∑ d : Fin 128, a (ix2 n d) * b (ix2 d c) := by
  refine (Ideal.matmul_constant_zero_apply _ _ _ _ _).trans ?_
  rw [← Equiv.sum_comp (contrEquiv1 dot_S16384x128_S128x32_S16384x32_1_0_0_1_n_n 128 rfl rfl).symm]
  refine Finset.sum_congr rfl fun d _ => congrArg₂ (· * ·) (congrArg a ?_) (congrArg b ?_)
  · funext e
    match e with
    | ⟨0, _⟩ => rfl
    | ⟨1, _⟩ => rfl
  · funext e
    match e with
    | ⟨0, _⟩ => rfl
    | ⟨1, _⟩ => rfl

/-- The product of the one row of constants, from zero. -/
theorem rowProduct_apply (a : FVec Ideal S1x128 .f32) (b : FVec Ideal S128x32 .f32) (n : Fin 1) (c : Fin 32) :
    matmul dot_S1x128_S128x32_S1x32_1_0_0_1_n_n none a b (constant S1x32 .f32 0x00000000#32) (ix2 n c)
      = ∑ d : Fin 128, a (ix2 n d) * b (ix2 d c) := by
  refine (Ideal.matmul_constant_zero_apply _ _ _ _ _).trans ?_
  rw [← Equiv.sum_comp (contrEquiv1 dot_S1x128_S128x32_S1x32_1_0_0_1_n_n 128 rfl rfl).symm]
  refine Finset.sum_congr rfl fun d _ => congrArg₂ (· * ·) (congrArg a ?_) (congrArg b ?_)
  · funext e
    match e with
    | ⟨0, _⟩ => rfl
    | ⟨1, _⟩ => rfl
  · funext e
    match e with
    | ⟨0, _⟩ => rfl
    | ⟨1, _⟩ => rfl

/-! ## The block stored -/

section Block

variable (x0 : Vec Ideal S7x128 .f32) (x1 : Vec Ideal S6x128 .f32) (x2 x3 x4 x5 x6 : Vec Ideal S1x128 .f32)
  (x7 : Vec Ideal S128x32 .f32) (x8 : Vec Ideal S16384x128 .f32)

/-- Dimension `d`'s knots and raw slopes in the blocks. -/
abbrev knots (d : Fin 128) (k : Fin 7) : EReal := x0 (ix2 k d)
abbrev raws (d : Fin 128) (k : Fin 6) : EReal := x1 (ix2 k d)

/-- The weights over the loaded blocks. -/
def weights : FVec Ideal S6x128 .f32 :=
  k0_pay11 (k0_pay3 x0 x1) (k0_pay5 x2) (k0_pay7 x2) (k0_pay8 x2) (k0_pay9 x2) x5

/-- The weights, at an index. -/
theorem weights_apply (j : Fin 6) (d : Fin 128) :
    weights x0 x1 x2 x5 (ix2 j d) = weight (knots x0 d) (raws x1 d) (x2 (ix2 0 d)) (x5 (ix2 0 d)) j :=
  pay11_apply _ x2 x5 (knots x0 d) (raws x1 d) d (fun j => pay3_apply x0 x1 j d) j

/-- The hinges of the whole block. -/
theorem sum_apply (n : Fin 16384) (d : Fin 128) (W : FVec Ideal S6x128 .f32) (T : FVec Ideal S7x128 .f32)
    (hW : ∀ j, W (ix2 j d) = weight (knots x0 d) (raws x1 d) (x2 (ix2 0 d)) (x5 (ix2 0 d)) j)
    (hT : ∀ j, T (ix2 j d) = knot (knots x0 d) (x4 (ix2 0 d)) (x5 (ix2 0 d)) j)
    (y : FVec Ideal S16384x128 .f32)
    (hy : y = addf (addf (addf (addf (addf
        (mulf (broadcastTo S16384x128 (extractStridedSlice S1x128 ![0, 0] W slices_S6x128_o0_0_S1x128) broadcasts_S1x128_S16384x128) x8)
        (mulf (broadcastTo S16384x128 (extractStridedSlice S1x128 ![1, 0] W slices_S6x128_o1_0_S1x128) broadcasts_S1x128_S16384x128)
          (maximumf x8 (broadcastTo S16384x128 (extractStridedSlice S1x128 ![1, 0] T slices_S7x128_o1_0_S1x128) broadcasts_S1x128_S16384x128))))
        (mulf (broadcastTo S16384x128 (extractStridedSlice S1x128 ![2, 0] W slices_S6x128_o2_0_S1x128) broadcasts_S1x128_S16384x128)
          (maximumf x8 (broadcastTo S16384x128 (extractStridedSlice S1x128 ![2, 0] T slices_S7x128_o2_0_S1x128) broadcasts_S1x128_S16384x128))))
        (mulf (broadcastTo S16384x128 (extractStridedSlice S1x128 ![3, 0] W slices_S6x128_o3_0_S1x128) broadcasts_S1x128_S16384x128)
          (maximumf x8 (broadcastTo S16384x128 (extractStridedSlice S1x128 ![3, 0] T slices_S7x128_o3_0_S1x128) broadcasts_S1x128_S16384x128))))
        (mulf (broadcastTo S16384x128 (extractStridedSlice S1x128 ![4, 0] W slices_S6x128_o4_0_S1x128) broadcasts_S1x128_S16384x128)
          (maximumf x8 (broadcastTo S16384x128 (extractStridedSlice S1x128 ![4, 0] T slices_S7x128_o4_0_S1x128) broadcasts_S1x128_S16384x128))))
        (mulf (broadcastTo S16384x128 (extractStridedSlice S1x128 ![5, 0] W slices_S6x128_o5_0_S1x128) broadcasts_S1x128_S16384x128)
          (maximumf x8 (broadcastTo S16384x128 (extractStridedSlice S1x128 ![5, 0] T slices_S7x128_o5_0_S1x128) broadcasts_S1x128_S16384x128)))) :
    y (ix2 n d) = hinges (knots x0 d) (raws x1 d) (x2 (ix2 0 d)) (x4 (ix2 0 d)) (x5 (ix2 0 d)) (x8 (ix2 n d)) := by
  subst hy
  simp only [addf_apply, mulf_apply, maximumf_apply, row_apply]
  rw [rows_apply 0 W _ 0 d 0 rfl, rows_apply 1 W _ 0 d 1 rfl, rows_apply 2 W _ 0 d 2 rfl, rows_apply 3 W _ 0 d 3 rfl,
    rows_apply 4 W _ 0 d 4 rfl, rows_apply 5 W _ 0 d 5 rfl, rows_apply 1 T _ 0 d 1 rfl, rows_apply 2 T _ 0 d 2 rfl,
    rows_apply 3 T _ 0 d 3 rfl, rows_apply 4 T _ 0 d 4 rfl, rows_apply 5 T _ 0 d 5 rfl]
  simp only [hW, hT]
  rfl

/-- The row of constants times the output weights. -/
theorem pay12_apply (n : Fin 1) (c : Fin 32) :
    k0_pay12 (k0_pay2 x0) (k0_pay3 x0 x1) (k0_pay5 x2) (k0_pay7 x2) (k0_pay8 x2) (k0_pay9 x2) x5 x4 x3 x6 x7 (ix2 n c)
      = ∑ d : Fin 128, offset (knots x0 d) (raws x1 d) (x2 (ix2 0 d)) (x3 (ix2 0 d)) (x4 (ix2 0 d)) (x5 (ix2 0 d)) (x6 (ix2 0 d))
          * x7 (ix2 d c) := by
  unfold k0_pay12
  dsimp only
  refine (rowProduct_apply _ _ n c).trans (Finset.sum_congr rfl fun d _ => congrArg (· * _) ?_)
  obtain rfl : n = 0 := Subsingleton.elim _ _
  rw [subf_apply, subf_apply, shapeCast_self, asRow_apply, offset]
  refine congrArg _ ((colSum_apply _ _ d).trans (Finset.sum_congr rfl fun j _ => ?_))
  rw [mulf_apply, rows_apply 0 _ _ j d j.castSucc (by rw [Fin.val_castSucc, zero_add]), pay10_apply, pay2_eq]
  exact congrArg (· * _) (weights_apply x0 x1 x2 x5 j d)

/-- A store that starts at the origin. -/
theorem whole_start : (![0, 0] : Fin 2 → Nat) = fun _ => 0 := by
  funext a
  match a with
  | ⟨0, _⟩ => rfl
  | ⟨1, _⟩ => rfl

/-- What the body stores, at an index. -/
theorem out_apply (n : Fin 16384) (c : Fin 32) :
    out0_9 x0 x1 x2 x3 x4 x5 x6 x7 x8 (ix2 n c)
      = (∑ d : Fin 128, hinges (knots x0 d) (raws x1 d) (x2 (ix2 0 d)) (x4 (ix2 0 d)) (x5 (ix2 0 d)) (x8 (ix2 n d)) * x7 (ix2 d c))
        + ∑ d : Fin 128, offset (knots x0 d) (raws x1 d) (x2 (ix2 0 d)) (x3 (ix2 0 d)) (x4 (ix2 0 d)) (x5 (ix2 0 d)) (x6 (ix2 0 d))
            * x7 (ix2 d c) := by
  unfold out0_9 k0_pay16 k0_pay17 k0_pay18 k0_pay19 k0_pay20 k0_pay21
  rw [View.canon_unit_zero whole_start]
  simp only [View.ld_unit_zero (S := S7x128) whole_start, View.ld_unit_zero (S := S6x128) whole_start,
    View.ld_unit_zero (S := S1x128) whole_start, View.ld_unit_zero (S := S128x32) whole_start,
    View.ld_unit_zero (S := S16384x128) whole_start]
  unfold k0_pay1
  rw [addf_apply, row_apply, pay12_apply]
  refine congrArg (· + _) ((product_apply _ _ n c).trans (Finset.sum_congr rfl fun d _ => congrArg (· * _) ?_))
  refine sum_apply x0 x1 x2 x4 x5 x8 n d (weights x0 x1 x2 x5) (k0_pay10 (k0_pay2 x0) x5 x4)
    (fun j => weights_apply x0 x1 x2 x5 j d) (fun j => by rw [pay10_apply, pay2_eq]) _ ?_
  unfold k0_pay13 k0_pay14 k0_pay15
  rfl

end Block

end Cert.Spline.Kernel

end
-- ==== Proof.KernelArray.lean ====
/-
  What the kernel's output array holds after the run: the sum of the hinges and the offsets against the projection, as one
  function of the nine argument arrays.  Grid point `t` works on tokens `16384 t … 16384 t + 16383`; every other window is
  the whole of its array.
-/
module

public import proofs.«01_k».proof.Proof.KernelBlock
public import proofs.«01_k».proof.Proof.Gen.KernelIdeal.Value

@[expose] public section

noncomputable section

namespace Cert.Spline.Kernel

open Cert.KernelIdeal Cert.KernelIdeal.Gen Cert.KernelIdeal.Value Idealize.ShloMosaic Idealize.ShloMosaic.TcCoe
  Idealize.ShloMosaic.ValueIdx Idealize.SL.Sem Cert.Spline

/-! ## The output as one function of the arguments -/

section Output

variable (a0 : Vec Ideal S262144x128 .f32) (a1 : Vec Ideal S128x7 .f32) (a2 : Vec Ideal S128x6 .f32)
  (a3 a4 : Vec Ideal S128 .f32) (a5 a6 a7 : Vec Ideal S1x128 .f32) (a8 : Vec Ideal S128x32 .f32)

/-- Token `n`, channel `c`. -/
def entry (n : Fin 262144) (c : Fin 32) : EReal :=
  (∑ d : Fin 128, hinges (fun k => a1 (ix2 d k)) (fun k => a2 (ix2 d k)) (a3 (ix1 d)) (a5 (ix2 0 d)) (a6 (ix2 0 d))
      (a0 (ix2 n d)) * a8 (ix2 d c))
    + ∑ d : Fin 128, offset (fun k => a1 (ix2 d k)) (fun k => a2 (ix2 d k)) (a3 (ix1 d)) (a4 (ix1 d)) (a5 (ix2 0 d))
        (a6 (ix2 0 d)) (a7 (ix2 0 d)) * a8 (ix2 d c)

/-- The whole output array. -/
def output : Vec Ideal S262144x32 .f32 := fun i => entry a0 a1 a2 a3 a4 a5 a6 a7 a8 (i 0) (i 1)

end Output

variable (m : (ℓ : Loc nD τ sig) → Buf (Elt Ideal) ℓ)

/-! ## The four arrays the host forms before the region -/

/-- The knots, transposed. -/
theorem V_knots (c : Dev nD) : V m c main_v0
    = transpose S7x128 [1, 0] (m ((c : Thread nD τ).loc main_arg1)) transposes_S128x7_S7x128_1_0 := by
  show StableHlo.after hostOps0 _ _ = _
  after_results_simp

/-- The raw slopes, transposed. -/
theorem V_raws (c : Dev nD) : V m c main_v1
    = transpose S6x128 [1, 0] (m ((c : Thread nD τ).loc main_arg2)) transposes_S128x6_S6x128_1_0 := by
  show StableHlo.after hostOps0 _ _ = _
  after_results_simp

/-- The raw scales as one row. -/
theorem V_scale (c : Dev nD) : V m c main_v2
    = shapeCast S1x128 (m ((c : Thread nD τ).loc main_arg3)) shapeCasts_S128_S1x128 := by
  show StableHlo.after hostOps0 _ _ = _
  after_results_simp
  rfl

/-- The shifts as one row. -/
theorem V_shift (c : Dev nD) : V m c main_v3
    = shapeCast S1x128 (m ((c : Thread nD τ).loc main_arg4)) shapeCasts_S128_S1x128 := by
  show StableHlo.after hostOps0 _ _ = _
  after_results_simp
  rfl

/-- A matrix transposed. -/
theorem turned_apply {α : Type} {r c : ℕ} (x : (⟨2, ![r, c]⟩ : Shape).Idx → α)
    (h : (⟨2, ![r, c]⟩ : Shape).Transposes [1, 0] ⟨2, ![c, r]⟩) (k : Fin c) (d : Fin r) :
    transpose ⟨2, ![c, r]⟩ [1, 0] x h (ix2 k d) = x (ix2 d k) := by
  refine transpose_apply _ x h _ _ fun b => ?_
  match b with
  | ⟨0, _⟩ => rfl
  | ⟨1, _⟩ => rfl

/-- So dimension `d`'s knots and raw slopes are row `d` of the arguments. -/
theorem knots_turned (x : Vec Ideal S128x7 .f32) (d : Fin 128) :
    knots (transpose S7x128 [1, 0] x transposes_S128x7_S7x128_1_0) d = fun k => x (ix2 d k) :=
  funext fun k => turned_apply x transposes_S128x7_S7x128_1_0 k d
theorem raws_turned (x : Vec Ideal S128x6 .f32) (d : Fin 128) :
    raws (transpose S6x128 [1, 0] x transposes_S128x6_S6x128_1_0) d = fun k => x (ix2 d k) :=
  funext fun k => turned_apply x transposes_S128x6_S6x128_1_0 k d

/-! ## The windows' blocks -/

/-- The other windows are at the origin of their arrays at every grid point. -/
theorem still0 : ∀ t : Fin cfg0.N, win0_0.index t (0 : Fin 2) = 0 ∧ win0_0.index t (1 : Fin 2) = 0 := (by decide +kernel : ∀ t : Fin grid0.N, _)
theorem still1 : ∀ t : Fin cfg0.N, win0_1.index t (0 : Fin 2) = 0 ∧ win0_1.index t (1 : Fin 2) = 0 := (by decide +kernel : ∀ t : Fin grid0.N, _)
theorem still2 : ∀ t : Fin cfg0.N, win0_2.index t (0 : Fin 2) = 0 ∧ win0_2.index t (1 : Fin 2) = 0 := (by decide +kernel : ∀ t : Fin grid0.N, _)
theorem still3 : ∀ t : Fin cfg0.N, win0_3.index t (0 : Fin 2) = 0 ∧ win0_3.index t (1 : Fin 2) = 0 := (by decide +kernel : ∀ t : Fin grid0.N, _)
theorem still4 : ∀ t : Fin cfg0.N, win0_4.index t (0 : Fin 2) = 0 ∧ win0_4.index t (1 : Fin 2) = 0 := (by decide +kernel : ∀ t : Fin grid0.N, _)
theorem still5 : ∀ t : Fin cfg0.N, win0_5.index t (0 : Fin 2) = 0 ∧ win0_5.index t (1 : Fin 2) = 0 := (by decide +kernel : ∀ t : Fin grid0.N, _)
theorem still6 : ∀ t : Fin cfg0.N, win0_6.index t (0 : Fin 2) = 0 ∧ win0_6.index t (1 : Fin 2) = 0 := (by decide +kernel : ∀ t : Fin grid0.N, _)
theorem still7 : ∀ t : Fin cfg0.N, win0_7.index t (0 : Fin 2) = 0 ∧ win0_7.index t (1 : Fin 2) = 0 := (by decide +kernel : ∀ t : Fin grid0.N, _)
/-- The token windows move with the grid. -/
theorem moves8 : ∀ t : Fin cfg0.N, win0_8.index t (0 : Fin 2) = t.val ∧ win0_8.index t (1 : Fin 2) = 0 := (by decide +kernel : ∀ t : Fin grid0.N, _)
theorem moves9 : ∀ t : Fin cfg0.N, win0_9.index t (0 : Fin 2) = t.val ∧ win0_9.index t (1 : Fin 2) = 0 := (by decide +kernel : ∀ t : Fin grid0.N, _)

/-- A window whose blocks start at the origin and are as large as its array: its block is its array. -/
theorem whole_block {α : Type} {r c : ℕ} (x : (⟨2, ![r, c]⟩ : Shape).Idx → α)
    (emb : (⟨2, ![r, c]⟩ : Shape).Idx → (⟨2, ![r, c]⟩ : Shape).Idx) {o₀ o₁ : ℕ} (ho : o₀ = 0 ∧ o₁ = 0)
    (e₀ : ∀ j, (emb j 0).val = o₀ * r + 1 * (j 0).val) (e₁ : ∀ j, (emb j 1).val = o₁ * c + 1 * (j 1).val) :
    (fun j => x (emb j)) = x := by
  obtain ⟨rfl, rfl⟩ := ho
  refine funext fun j => congrArg x (funext fun a => Fin.ext ?_)
  match a with
  | ⟨0, _⟩ => exact (e₀ j).trans (show 0 * r + 1 * (j 0).val = (j 0).val by omega)
  | ⟨1, _⟩ => exact (e₁ j).trans (show 0 * c + 1 * (j 1).val = (j 1).val by omega)

/-- So each of the first eight windows holds its array at every grid point. -/
theorem block0 (c : Dev nD) (t : Fin cfg0.N) : iblk m c 0 t = V m c main_v0 :=
  whole_block (V m c main_v0) ((cfg0.win 0).blk t).view.emb (still0 t) (fun _ => rfl) (fun _ => rfl)
theorem block1 (c : Dev nD) (t : Fin cfg0.N) : iblk m c 1 t = V m c main_v1 :=
  whole_block (V m c main_v1) ((cfg0.win 1).blk t).view.emb (still1 t) (fun _ => rfl) (fun _ => rfl)
theorem block2 (c : Dev nD) (t : Fin cfg0.N) : iblk m c 2 t = V m c main_v2 :=
  whole_block (V m c main_v2) ((cfg0.win 2).blk t).view.emb (still2 t) (fun _ => rfl) (fun _ => rfl)
theorem block3 (c : Dev nD) (t : Fin cfg0.N) : iblk m c 3 t = V m c main_v3 :=
  whole_block (V m c main_v3) ((cfg0.win 3).blk t).view.emb (still3 t) (fun _ => rfl) (fun _ => rfl)
theorem block4 (c : Dev nD) (t : Fin cfg0.N) : iblk m c 4 t = V m c main_arg5 :=
  whole_block (V m c main_arg5) ((cfg0.win 4).blk t).view.emb (still4 t) (fun _ => rfl) (fun _ => rfl)
theorem block5 (c : Dev nD) (t : Fin cfg0.N) : iblk m c 5 t = V m c main_arg6 :=
  whole_block (V m c main_arg6) ((cfg0.win 5).blk t).view.emb (still5 t) (fun _ => rfl) (fun _ => rfl)
theorem block6 (c : Dev nD) (t : Fin cfg0.N) : iblk m c 6 t = V m c main_arg7 :=
  whole_block (V m c main_arg7) ((cfg0.win 6).blk t).view.emb (still6 t) (fun _ => rfl) (fun _ => rfl)
theorem block7 (c : Dev nD) (t : Fin cfg0.N) : iblk m c 7 t = V m c main_arg8 :=
  whole_block (V m c main_arg8) ((cfg0.win 7).blk t).view.emb (still7 t) (fun _ => rfl) (fun _ => rfl)

/-- The token that row `r` of grid point `t`'s block holds. -/
def token (t : Fin cfg0.N) (r : Fin 16384) : Fin 262144 := ⟨t.val * 16384 + r.val, by
  have h : t.val < 16 := lt_of_lt_of_eq t.isLt N_0
  have := r.isLt; omega⟩

/-- Row `r` of the token block is token `token t r`. -/
theorem emb8 (t : Fin cfg0.N) (r : Fin 16384) (d : Fin 128) :
    ((cfg0.win 8).blk t).view.emb (ix2 r d : S16384x128.Idx) = (ix2 (token t r) d : S262144x128.Idx) := by
  obtain ⟨e0, e1⟩ := moves8 t
  funext a; apply Fin.ext
  match a with
  | ⟨0, _⟩ => show win0_8.index t (0 : Fin 2) * 16384 + 1 * r.val = t.val * 16384 + r.val; omega
  | ⟨1, _⟩ => show win0_8.index t (1 : Fin 2) * 128 + 1 * d.val = d.val; omega

/-- Row `r` of the output block is token `token t r`. -/
theorem emb9 (t : Fin cfg0.N) (r : Fin 16384) (c : Fin 32) :
    ((cfg0.win 9).blk t).view.emb (ix2 r c : S16384x32.Idx) = (ix2 (token t r) c : S262144x32.Idx) := by
  obtain ⟨e0, e1⟩ := moves9 t
  funext a; apply Fin.ext
  match a with
  | ⟨0, _⟩ => show win0_9.index t (0 : Fin 2) * 16384 + 1 * r.val = t.val * 16384 + r.val; omega
  | ⟨1, _⟩ => show win0_9.index t (1 : Fin 2) * 32 + 1 * c.val = c.val; omega

/-- The token block at grid point `t`. -/
theorem block8_apply (c : Dev nD) (t : Fin cfg0.N) (r : Fin 16384) (d : Fin 128) :
    iblk m c 8 t (ix2 r d) = m ((c : Thread nD τ).loc main_arg0) (ix2 (token t r) d) := by
  show V m c main_arg0 (((cfg0.win 8).blk t).view.emb (ix2 r d : S16384x128.Idx)) = _
  rw [emb8, V_main_arg0]

/-! ## From blocks to the array -/

/-- The output array of device `c`, from the launch memory. -/
abbrev result (c : Dev nD) : Vec Ideal S262144x32 .f32 :=
  output (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What grid point `t` computes, against `result`. -/
theorem point_apply (c : Dev nD) (t : Fin cfg0.N) (r : Fin 16384) (k : Fin 32) :
    out0_9 (iblk m c 0 t) (iblk m c 1 t) (iblk m c 2 t) (iblk m c 3 t) (iblk m c 4 t) (iblk m c 5 t) (iblk m c 6 t)
        (iblk m c 7 t) (iblk m c 8 t) (ix2 r k : S16384x32.Idx)
      = result m c (ix2 (token t r) k) := by
  show _ = entry _ _ _ _ _ _ _ _ _ (token t r) k
  unfold entry
  rw [out_apply, (block0 m c t).trans (V_knots m c), (block1 m c t).trans (V_raws m c), (block2 m c t).trans (V_scale m c),
    (block3 m c t).trans (V_shift m c), (block4 m c t).trans (V_main_arg5 m c), (block5 m c t).trans (V_main_arg6 m c),
    (block6 m c t).trans (V_main_arg7 m c), (block7 m c t).trans (V_main_arg8 m c)]
  simp only [block8_apply, asRow_apply]
  refine congrArg₂ (· + ·) (Finset.sum_congr rfl fun d _ => ?_) (Finset.sum_congr rfl fun d _ => ?_)
  · rw [knots_turned, raws_turned]
  · rw [knots_turned, raws_turned]

/-- What grid point `t` writes back is its block of `result`. -/
theorem flushed (c : Dev nD) (t : Fin cfg0.N) :
    (dats m 0 c).flushed 9 t = ((cfg0.win 9).blk t).view.read (Elt Ideal) (result m c) := by
  rw [flushed9]
  funext j
  have hj : j = (ix2 (j 0 : Fin 16384) (j 1 : Fin 32) : S16384x32.Idx) := eq_ix2 j
  have e : ((cfg0.win 9).blk t).view.emb j = (ix2 (token t (j 0)) (j 1 : Fin 32) : S262144x32.Idx) :=
    (congrArg ((cfg0.win 9).blk t).view.emb hj).trans (emb9 t _ _)
  show out0_9 (iblk m c 0 t) (iblk m c 1 t) (iblk m c 2 t) (iblk m c 3 t) (iblk m c 4 t) (iblk m c 5 t) (iblk m c 6 t)
    (iblk m c 7 t) (iblk m c 8 t) j = result m c (((cfg0.win 9).blk t).view.emb j)
  exact (congrArg _ hj).trans ((point_apply m c t _ _).trans (congrArg (result m c) e.symm))

/-- Every index of the output is in the block of one grid point. -/
theorem covered (i : S262144x32.Idx) :
    ∃ t : Fin cfg0.N, (cfg0.win 9).flush t = true ∧ i ∈ ((cfg0.win 9).blk t).view.set := by
  have hlt : (i 0).val < 262144 := (i 0).isLt
  let t : Fin cfg0.N := ⟨(i 0).val / 16384, lt_of_lt_of_eq (by omega : (i 0).val / 16384 < 16) N_0.symm⟩
  let r : Fin 16384 := ⟨(i 0).val % 16384, Nat.mod_lt _ (by decide)⟩
  have hi : i = ix2 (token t r) (i 1) := by
    rw [eq_ix2 i]
    refine congrArg (ix2 · (i 1)) (Fin.ext ?_)
    show (i 0).val = (i 0).val / 16384 * 16384 + (i 0).val % 16384
    omega
  refine ⟨t, flush0_9 t, ?_⟩
  have h := ((cfg0.win 9).blk t).view.emb_mem_set (ix2 r (i 1 : Fin 32) : S16384x32.Idx)
  exact (hi.trans (emb9 t r _).symm) ▸ h

/-- The output array after all grid points is `result`. -/
theorem array (c : Dev nD) : (dats m 0 c).arrAt 9 cfg0.N = result m c :=
  (dats m 0 c).arrAt_eq_of_cover 9 (result m c) (fun t _ => flushed m c t) covered

end Cert.Spline.Kernel

end
-- ==== Proof.HostOps.lean ====
/-
  The reference's array operations whose element depends on more than one element of an operand, each read at an index: a
  lookup along a row, a count along an axis, a running sum along a row, and a column put before a matrix.
-/
module

public import proofs.«01_k».proof.Proof.Curve
public import Idealize.ShloMosaic.PureOps.Ideal.Laws
public import Idealize.ShloMosaic.Lib.ValueIdx
public import Idealize.ShloMosaic.Lib.ReduceAll
public import Idealize.ShloMosaic.Lib.StableHlo.Predicate
public import Idealize.ShloMosaic.Lib.Pipeline.Value

@[expose] public section

noncomputable section

namespace Cert.Spline.Lookup

open Idealize.ShloMosaic Idealize.ShloMosaic.ValueIdx Cert.Spline

/-! ## A lookup along each row -/

section Along

variable {α : Type} {R N B w : ℕ}

/-- The dimension numbers of a lookup of one column per entry, row by row. -/
abbrev alongDims (R N B : ℕ)
    (wf : GatherDims.WF ⟨2, ![R, N]⟩ ⟨3, ![R, B, 1]⟩ ⟨2, ![R, B]⟩ [] [1] [0] [1] [0] 2 ![1, 1]) :
    GatherDims ⟨2, ![R, N]⟩ ⟨3, ![R, B, 1]⟩ ⟨2, ![R, B]⟩ where
  offsetDims := []
  collapsedSliceDims := [1]
  operandBatchingDims := [0]
  startIndicesBatchingDims := [0]
  startIndexMap := [1]
  indexVectorDim := 2
  sliceSizes := ![1, 1]
  wf := wf

/-- Entry `(d, n)` of the lookup is row `d` at the column that entry `(d, n, 0)` of the indices names, the index read as a
    signed number and clamped to the row. -/
theorem along_apply (hN : 0 < N)
    (wf : GatherDims.WF ⟨2, ![R, N]⟩ ⟨3, ![R, B, 1]⟩ ⟨2, ![R, B]⟩ [] [1] [0] [1] [0] 2 ![1, 1])
    (x : (⟨2, ![R, N]⟩ : Shape).Idx → α) (idx : IVec ⟨3, ![R, B, 1]⟩ w) (d : Fin R) (n : Fin B) :
    Host.gather (alongDims R N B wf) x idx (ix2 d n)
      = x (ix2 d ⟨min (idx (ix3 d n 0)).toInt.toNat (N - 1), by omega⟩) := by
  unfold Host.gather
  refine congrArg x (funext fun a => Fin.ext ?_)
  show (alongDims R N B wf).start (ix2 d n) idx a + (alongDims R N B wf).batchCoord (ix2 d n) a
    + (alongDims R N B wf).offCoord (ix2 d n) a = _
  match a with
  | ⟨0, _⟩ =>
    show (alongDims R N B wf).start (ix2 d n) idx 0 + (alongDims R N B wf).batchCoord (ix2 d n) 0
      + (alongDims R N B wf).offCoord (ix2 d n) 0 = d.val
    rw [GatherDims.start_batching _ _ _ _ (List.mem_singleton.mpr rfl),
      GatherDims.offCoord_eq_zero _ _ _ fun h => ((GatherDims.mem_sKept _ _).mp h).2 (List.mem_singleton.mpr rfl),
      Nat.zero_add, Nat.add_zero]
    unfold GatherDims.batchCoord
    rw [dif_pos (List.mem_singleton.mpr rfl)]
    rfl
  | ⟨1, _⟩ =>
    show (alongDims R N B wf).start (ix2 d n) idx 1 + (alongDims R N B wf).batchCoord (ix2 d n) 1
      + (alongDims R N B wf).offCoord (ix2 d n) 1 = min (idx (ix3 d n 0)).toInt.toNat (N - 1)
    rw [GatherDims.batchCoord_eq_zero _ _ _ (fun h => by simp at h),
      GatherDims.offCoord_eq_zero _ _ _ fun h => ((GatherDims.mem_sKept _ _).mp h).1 (List.mem_singleton.mpr rfl)]
    simp only [Nat.add_zero]
    unfold GatherDims.start
    rw [dif_pos (show (1 : Fin 2) ∈ (alongDims R N B wf).startIndexMap from List.mem_singleton.mpr rfl)]
    have e : (alongDims R N B wf).siIdx (ix2 d n) ⟨List.idxOf (1 : Fin 2) (alongDims R N B wf).startIndexMap,
        List.idxOf_lt_length_iff.2 (List.mem_singleton.mpr rfl)⟩ = ix3 d n 0 := by
      funext b; refine Fin.ext ?_
      match b with
      | ⟨0, _⟩ => rfl
      | ⟨1, _⟩ => rfl
      | ⟨2, _⟩ => rfl
    rw [e]
    rfl

/-- So it is row `d` at the column that the word there clamps to. -/
theorem along_apply_of_word (hN : 0 < N)
    (wf : GatherDims.WF ⟨2, ![R, N]⟩ ⟨3, ![R, B, 1]⟩ ⟨2, ![R, B]⟩ [] [1] [0] [1] [0] 2 ![1, 1])
    (x : (⟨2, ![R, N]⟩ : Shape).Idx → α) (idx : IVec ⟨3, ![R, B, 1]⟩ w) (d : Fin R) (n : Fin B) (v : BitVec w)
    (hv : idx (ix3 d n 0) = v) (p : Fin N) (hp : min v.toInt.toNat (N - 1) = p.val) :
    Host.gather (alongDims R N B wf) x idx (ix2 d n) = x (ix2 d p) := by
  rw [along_apply hN]
  exact congrArg x (congrArg (ix2 d) (Fin.ext ((congrArg (fun v => min v.toInt.toNat (N - 1)) hv).trans hp)))

end Along

/-! ## A count along the middle axis -/

/-- Summing the widened bits of a mask over its middle axis counts the bits set there. -/
theorem count_apply {R K B : ℕ} (hK : K < 2 ^ 32) (mask : IVec ⟨3, ![R, K, B]⟩ 1) (hw : 1 < 32)
    (h' : (⟨3, ![R, K, B]⟩ : Shape).ReducesTo [1] ⟨2, ![R, B]⟩) (h : (⟨3, ![R, K, B]⟩ : Shape).Reduces [1] ⟨2, ![R, B]⟩)
    {u : Shape} (hu : 0 < u.numel) (d : Fin R) (n : Fin B) :
    (Host.reduce IntOp.addi (extui 32 mask hw) (constantI u 32 0#32) h' hu (ix2 d n)).toNat
      = (Finset.univ.filter fun k : Fin K => mask (ix3 d k n) = 1#1).card := by
  rw [Host.reduce_eq_fold_single _ _ _ h' h]
  have lift : ∀ k : Fin K, h.lift (ix2 d n) k = (ix3 d k n : (⟨3, ![R, K, B]⟩ : Shape).Idx) := fun k => by
    funext a; refine Fin.ext ?_
    match a with
    | ⟨0, _⟩ => rfl
    | ⟨1, _⟩ => rfl
    | ⟨2, _⟩ => rfl
  have bit : ∀ k : Fin K, ((extui 32 mask hw ∘ h.lift (ix2 d n)) k).toNat = if mask (ix3 d k n) = 1#1 then 1 else 0 := fun k =>
    (congrArg (fun i => (extui 32 mask hw i).toNat) (lift k)).trans (StableHlo.Predicate.toNat_setWidth_bit _)
  have total : ∑ k : Fin K, ((extui 32 mask hw ∘ h.lift (ix2 d n)) k).toNat
      = (Finset.univ.filter fun k : Fin K => mask (ix3 d k n) = 1#1).card := by
    rw [Finset.card_filter]; exact Finset.sum_congr rfl fun k _ => bit k
  refine (StableHlo.Predicate.toNat_fold_addi (Finset.univ : Finset (Fin K)) _ ?_).trans total
  rw [total]
  exact lt_of_le_of_lt (Finset.card_le_univ _) (by simpa using hK)

/-! ## A running sum along each row of six -/

/-- Adding the entries of a list one after the other adds their sum. -/
theorem foldl_add {ι : Type} (g : ι → EReal) (l : List ι) (r : EReal) :
    l.foldl (fun r n => r + g n) r = r + (l.map g).sum := by
  induction l generalizing r with
  | nil => simp
  | cons a l ih => rw [List.foldl_cons, ih, List.map_cons, List.sum_cons, add_assoc]

/-- The window's place `k` is column `k` of its one row. -/
theorem place : ∀ k : Fin 6, (((⟨2, ![1, 6]⟩ : Shape).rowMajor.symm k) 0).val = 0
    ∧ (((⟨2, ![1, 6]⟩ : Shape).rowMajor.symm k) 1).val = k.val := by decide +kernel

/-- A window of six padded five low, read at `j`, holds the entries up to `j`. -/
theorem window_sum (g : Fin 6 → EReal) (j : Fin 6) :
    ∑ k : Fin 6, (if h : 5 ≤ j.val + k.val ∧ j.val + k.val - 5 < 6 then g ⟨j.val + k.val - 5, h.2⟩ else 0)
      = ∑ i : Fin 6, if i.val < j.val + 1 then g i else 0 := by
  fin_cases j <;> simp [Fin.sum_univ_succ] <;> rfl

/-- The running sum at `(d, j)` is the sum of row `d` up to column `j`. -/
theorem running_apply {R : ℕ} (x : (⟨2, ![R, 6]⟩ : Shape).Idx → EReal) (init : (⟨0, ![]⟩ : Shape).Idx → EReal)
    (hi : ∀ i, init i = 0)
    (h : (⟨2, ![R, 6]⟩ : Shape).ReduceWindows ![1, 6] ![1, 1] ![0, 5] ![0, 0] ⟨2, ![R, 6]⟩)
    (hu : 0 < (⟨0, ![]⟩ : Shape).numel) (d : Fin R) (j : Fin 6) :
    Host.reduceWindowAdd (F := Ideal) (φ := .f32) ![1, 6] ![1, 1] ![0, 5] ![0, 0] x init h hu (ix2 d j)
      = ∑ i : Fin 6, if i.val < j.val + 1 then x (ix2 d i) else 0 := by
  have hz : init (Shape.Idx.first hu) = 0 := hi _
  show Host.reduceWindow (· + ·) ![1, 6] ![1, 1] ![0, 5] ![0, 0] x
    (fun _ : (⟨0, ![]⟩ : Shape).Idx => init (Shape.Idx.first hu)) h (by decide) (ix2 d j) = _
  rw [hz]
  unfold Host.reduceWindow
  refine (foldl_add _ _ _).trans ?_
  rw [zero_add, ← window_sum (fun i => x (ix2 d i)) j]
  have e : ∀ g : Fin 6 → EReal, ((List.finRange 6).map g).sum = ∑ k, g k := fun g => by
    rw [← List.ofFn_eq_map, List.sum_ofFn]
  refine (e _).trans (Finset.sum_congr rfl fun k _ => ?_)
  obtain ⟨p0, p1⟩ := place k
  have hd := d.isLt
  dsimp only
  by_cases hk : 5 ≤ j.val + k.val ∧ j.val + k.val - 5 < 6
  · rw [dif_pos hk, dif_pos fun a => by
      match a with
      | ⟨0, _⟩ =>
        show 0 ≤ d.val * 1 + (((⟨2, ![1, 6]⟩ : Shape).rowMajor.symm k) 0).val
          ∧ d.val * 1 + (((⟨2, ![1, 6]⟩ : Shape).rowMajor.symm k) 0).val - 0 < R
        rw [p0]; omega
      | ⟨1, _⟩ =>
        show 5 ≤ j.val * 1 + (((⟨2, ![1, 6]⟩ : Shape).rowMajor.symm k) 1).val
          ∧ j.val * 1 + (((⟨2, ![1, 6]⟩ : Shape).rowMajor.symm k) 1).val - 5 < 6
        rw [p1]; omega]
    refine congrArg x (funext fun a => Fin.ext ?_)
    match a with
    | ⟨0, _⟩ =>
      show d.val * 1 + (((⟨2, ![1, 6]⟩ : Shape).rowMajor.symm k) 0).val - 0 = d.val
      rw [p0]; omega
    | ⟨1, _⟩ =>
      show j.val * 1 + (((⟨2, ![1, 6]⟩ : Shape).rowMajor.symm k) 1).val - 5 = j.val + k.val - 5
      rw [p1]; omega
  · rw [dif_neg hk, dif_neg fun hin => hk ?_]
    have h1 : 5 ≤ j.val * 1 + (((⟨2, ![1, 6]⟩ : Shape).rowMajor.symm k) 1).val
      ∧ j.val * 1 + (((⟨2, ![1, 6]⟩ : Shape).rowMajor.symm k) 1).val - 5 < 6 := hin 1
    rw [p1] at h1; omega

/-! ## A column put before a matrix -/

section Before

variable {α : Type} {R : ℕ}

/-- The first column is the one put before. -/
theorem before_first (x : (⟨2, ![R, 1]⟩ : Shape).Idx → α) (y : (⟨2, ![R, 6]⟩ : Shape).Idx → α)
    (h : Shape.Concatenates [⟨2, ![R, 1]⟩, ⟨2, ![R, 6]⟩] (⟨2, ![R, 7]⟩ : Shape) 1) (d : Fin R) :
    concatenate ⟨2, ![R, 7]⟩ 1 [⟨⟨2, ![R, 1]⟩, x⟩, ⟨⟨2, ![R, 6]⟩, y⟩] h (ix2 d 0) = x (ix2 d 0) :=
  concatenate_pair_apply_left (t := ⟨2, ![R, 7]⟩) (s₁ := ⟨2, ![R, 1]⟩) (s₂ := ⟨2, ![R, 6]⟩) 1 x y h _ rfl _ fun b => by
    match b with
    | ⟨0, _⟩ => rfl
    | ⟨1, _⟩ => rfl

/-- The other columns are the matrix. -/
theorem before_rest (x : (⟨2, ![R, 1]⟩ : Shape).Idx → α) (y : (⟨2, ![R, 6]⟩ : Shape).Idx → α)
    (h : Shape.Concatenates [⟨2, ![R, 1]⟩, ⟨2, ![R, 6]⟩] (⟨2, ![R, 7]⟩ : Shape) 1) (d : Fin R) (k : Fin 6) :
    concatenate ⟨2, ![R, 7]⟩ 1 [⟨⟨2, ![R, 1]⟩, x⟩, ⟨⟨2, ![R, 6]⟩, y⟩] h (ix2 d k.succ) = y (ix2 d k) :=
  concatenate_pair_apply_right (t := ⟨2, ![R, 7]⟩) (s₁ := ⟨2, ![R, 1]⟩) (s₂ := ⟨2, ![R, 6]⟩) 1 x y h _ rfl rfl _ (fun b => by
    match b with
    | ⟨0, _⟩ => exact fun _ => rfl
    | ⟨1, _⟩ => exact fun hb => absurd rfl hb) rfl

end Before

/-! ## The words that name a piece -/

/-- A count of at most seven, clamped to one and six and stepped down by one, is the word of the piece it picks. -/
theorem pick_word (w : BitVec 32) (n : ℕ) (hw : w.toNat = n) (hn : n ≤ 7) :
    IntOp.subi (IntOp.minsi 6#32 (IntOp.maxsi 1#32 w)) 1#32 = BitVec.ofNat 32 (pick n).val := by
  have e : w = BitVec.ofNat 32 n := by rw [← hw, BitVec.ofNat_toNat, BitVec.setWidth_eq]
  subst e
  clear hw
  interval_cases n <;> decide

/-- The word of a piece is not negative, so adding the row's length to negative words leaves it. -/
theorem word_kept (p : Fin 6) (l : BitVec 32) :
    Scalar.select (IntOp.cmpi .slt (BitVec.ofNat 32 p.val) 0#32) l (BitVec.ofNat 32 p.val) = BitVec.ofNat 32 p.val := by
  rw [show IntOp.cmpi .slt (BitVec.ofNat 32 p.val) 0#32 = 0#1 by fin_cases p <;> decide, select_zero]

/-- It lies in a row of six or of seven. -/
theorem word_inside (p : Fin 6) :
    IntOp.andi (IntOp.cmpi .sge (BitVec.ofNat 32 p.val) 0#32) (IntOp.cmpi .sle (BitVec.ofNat 32 p.val) 5#32) = 1#1
    ∧ IntOp.andi (IntOp.cmpi .sge (BitVec.ofNat 32 p.val) 0#32) (IntOp.cmpi .sle (BitVec.ofNat 32 p.val) 6#32) = 1#1 := by
  fin_cases p <;> decide

/-- Clamping it to the row leaves the piece. -/
theorem word_clamped (p : Fin 6) :
    min (BitVec.ofNat 32 p.val).toInt.toNat (6 - 1) = p.val ∧ min (BitVec.ofNat 32 p.val).toInt.toNat (7 - 1) = p.val := by
  fin_cases p <;> decide

end Cert.Spline.Lookup

end
-- ==== Proof.RefKnots.lean ====
/-
  What the reference computes of the knots: for each dimension the normalised slopes, and the curve's heights at the knots.
-/
module

public import proofs.«01_k».proof.Proof.HostOps
public import proofs.«01_k».proof.Proof.Gen.ReferenceIdeal.Read

@[expose] public section

noncomputable section

namespace Cert.Spline.Reference

open Cert.ReferenceIdeal Cert.ReferenceIdeal.Gen Cert.ReferenceIdeal.Read Idealize.ShloMosaic Idealize.ShloMosaic.ValueIdx
  Cert.Spline Cert.Spline.Lookup

/-! ## The reference's softplus -/

/-- No extended real differs from itself, so the guard never fires. -/
theorem guard (x : EReal) : Ideal.cmp .une x x = 0#1 := by simp [Ideal.cmp]

/-- The reference's form of the softplus, at one entry. -/
theorem softplus_eq (x z : EReal) (hz : z = 0) :
    Scalar.select (Ideal.cmp .une (x - z) (x - z)) (x + z) (max x z + Ideal.log1p (Ideal.exp (-(max (x - z) (-(x - z))))))
      = softplus x := by
  subst hz
  rw [guard, select_zero, sub_zero, softplus]

variable (x1 : Vec Ideal S128x7 .f32) (x2 : Vec Ideal S128x6 .f32) (x3 : Vec Ideal S128 .f32)

/-- The softplus of the raw slopes. -/
theorem soft_delta (i : S128x6.Idx) : val_main_v7 x2 i = softplus (x2 i) := by
  simp only [val_main_v7_apply, val_main_call0_v11_apply, val_main_call0_v10_apply, val_main_call0_v9_apply,
    val_main_call0_v8_apply, val_main_call0_v7_apply, val_main_call0_v6_apply, val_main_call0_v5_apply, val_main_call0_v4_apply,
    val_main_call0_v3_apply, val_main_call0_v2_apply, val_main_call0_v1_apply, val_main_call0_v0_apply,
    val_main_call0_cst_apply]
  exact softplus_eq (x2 i) _ ofBits_zero

/-- The softplus of the raw scales. -/
theorem soft_scale (i : S128.Idx) : val_main_v44 x3 i = softplus (x3 i) := by
  simp only [val_main_v44_apply, val_main_call6_v11_apply, val_main_call6_v10_apply, val_main_call6_v9_apply,
    val_main_call6_v8_apply, val_main_call6_v7_apply, val_main_call6_v6_apply, val_main_call6_v5_apply, val_main_call6_v4_apply,
    val_main_call6_v3_apply, val_main_call6_v2_apply, val_main_call6_v1_apply, val_main_call6_v0_apply,
    val_main_call6_cst_apply]
  exact softplus_eq (x3 i) _ ofBits_zero

/-! ## The slopes -/

/-- Dimension `d`'s knots and raw slopes. -/
abbrev knots (d : Fin 128) (k : Fin 7) : EReal := x1 (ix2 d k)
abbrev raws (d : Fin 128) (k : Fin 6) : EReal := x2 (ix2 d k)

/-- The lengths of the segments. -/
theorem seg_apply (d : Fin 128) (j : Fin 6) : val_main_v6 x1 (ix2 d j) = seg (knots x1 d) j := by
  rw [val_main_v6_apply, val_main_v4_apply, val_main_v5_apply]
  have e4 : idx_main_v4 (ix2 d j) = ix2 d j.succ := by
    funext a; refine Fin.ext ?_
    match a with
    | ⟨0, _⟩ => rfl
    | ⟨1, _⟩ => exact Nat.add_comm 1 j.val
  have e5 : idx_main_v5 (ix2 d j) = ix2 d j.castSucc := eq_ix2 _
  rw [e4, e5]
  rfl

/-- The slopes before normalisation. -/
theorem raw_apply (d : Fin 128) (j : Fin 6) : val_main_v9 x2 (ix2 d j) = raw (raws x2 d) j := by
  rw [val_main_v9_apply, soft_delta, val_main_v8_apply]
  rfl

/-- The rise over all segments. -/
theorem rise_apply (d : Fin 128) : val_main_v11 x1 x2 (ix1 d) = ∑ j, raw (raws x2 d) j * seg (knots x1 d) j := by
  rw [val_main_v11_apply, show val_main_cst_0 (F := Ideal) _ = (0 : EReal) from ofBits_zero, zero_add]
  refine Finset.sum_congr rfl fun j _ => ?_
  rw [show idx_main_v11 (ix1 d) j = ix2 d j from eq_ix2 _, val_main_v10_apply, raw_apply, seg_apply]
  rfl

/-- The length of all segments. -/
theorem run_apply (d : Fin 128) : val_main_v13 x1 (ix1 d) = ∑ j, seg (knots x1 d) j := by
  rw [val_main_v13_apply, show val_main_cst_1 (F := Ideal) _ = (0 : EReal) from ofBits_zero, zero_add]
  refine Finset.sum_congr rfl fun j _ => ?_
  rw [show idx_main_v13 (ix1 d) j = ix2 d j from eq_ix2 _, seg_apply]

/-- The average slope. -/
theorem avg_apply (d : Fin 128) : val_main_v19 x1 x2 (ix2 d 0) = avg (knots x1 d) (raws x2 d) := by
  rw [val_main_v19_apply, val_main_v17_apply, val_main_v12_apply, val_main_v16_apply, val_main_v14_apply, val_main_v15_apply,
    val_main_v18_apply, show idx_main_v12 (ix2 d 0) = ix1 d from eq_ix1 _, show idx_main_v14 (ix2 d 0) = ix1 d from eq_ix1 _,
    rise_apply, run_apply]
  rfl

/-- The normalised slopes. -/
theorem slope_apply (d : Fin 128) (j : Fin 6) : val_main_v21 x1 x2 (ix2 d j) = slope (knots x1 d) (raws x2 d) j := by
  rw [val_main_v21_apply, raw_apply, val_main_v20_apply, show idx_main_v20 (ix2 d j) = ix2 d 0 from eq_ix2 _, avg_apply]
  rfl

/-! ## The heights at the knots -/

/-- The rise over one segment. -/
theorem step_apply (d : Fin 128) (j : Fin 6) :
    val_main_v23 x1 x2 (ix2 d j) = slope (knots x1 d) (raws x2 d) j * seg (knots x1 d) j := by
  rw [val_main_v23_apply, slope_apply, seg_apply]
  rfl

/-- The running sum of the rises. -/
theorem running (d : Fin 128) (j : Fin 6) :
    val_main_v24 x1 x2 (ix2 d j) = height (knots x1 d) (raws x2 d) (j.val + 1) := by
  unfold val_main_v24
  refine (running_apply (val_main_v23 x1 x2) _ (fun _ => ?_) _ _ d j).trans ?_
  · exact ofBits_zero
  · simp only [step_apply]
    rfl

/-- The heights at the knots. -/
theorem height_apply (d : Fin 128) (k : Fin 7) : val_main_v25 x1 x2 (ix2 d k) = height (knots x1 d) (raws x2 d) k.val := by
  unfold val_main_v25
  refine Fin.cases ?_ (fun j => ?_) k
  · refine (before_first _ _ _ d).trans ?_
    rw [val_main_v22_apply]
    refine Eq.trans ofBits_zero ?_
    simp [height]
  · exact (before_rest _ _ _ d j).trans (running x1 x2 d j)

end Cert.Spline.Reference

end
-- ==== Proof.RefPiece.lean ====
/-
  Which piece the reference looks up for a token: the standardised coordinate, the count of knots below it, the word that
  names the piece, and the three rows read at that word.
-/
module

public import proofs.«01_k».proof.Proof.RefKnots

@[expose] public section

noncomputable section

namespace Cert.Spline.Reference

open Cert.ReferenceIdeal Cert.ReferenceIdeal.Gen Cert.ReferenceIdeal.Read Idealize.ShloMosaic Idealize.ShloMosaic.ValueIdx
  Cert.Spline Cert.Spline.Lookup

variable (x0 : Vec Ideal S262144x128 .f32) (x1 : Vec Ideal S128x7 .f32) (x2 : Vec Ideal S128x6 .f32)
  (x5 x6 : Vec Ideal S1x128 .f32) (d : Fin 128) (n : Fin 262144)

/-- Token `n`'s standardised coordinate `d`. -/
abbrev coord : EReal := Ideal.div (x0 (ix2 n d) - x5 (ix2 0 d)) (x6 (ix2 0 d))

/-- The piece it lies on. -/
abbrev piece : Fin 6 := pick (below (knots x1 d) (coord x0 x5 x6 d n))

/-- The normalised coordinate, transposed. -/
theorem coord_apply : val_main_v26 x0 x5 x6 (ix2 d n) = coord x0 x5 x6 d n := by
  rw [val_main_v26_apply, show idx_main_v26 (ix2 d n) = ix2 n d from eq_ix2 _, val_main_v3_apply, val_main_v1_apply,
    val_main_v0_apply, val_main_v2_apply, show idx_main_v0 (ix2 n d) = ix2 0 d from eq_ix2 _,
    show idx_main_v2 (ix2 n d) = ix2 0 d from eq_ix2 _]
  rfl

/-- The comparison of knot `k` with the coordinate. -/
theorem compare_apply (k : Fin 7) :
    val_main_v31 x0 x1 x5 x6 (ix3 d k n) = 1#1 ↔ knots x1 d k < coord x0 x5 x6 d n := by
  rw [val_main_v31_apply, val_main_v29_apply, val_main_v27_apply, val_main_v30_apply, val_main_v28_apply,
    show idx_main_v27 (idx_main_v29 (ix3 d k n)) = ix2 d k from eq_ix2 _,
    show idx_main_v28 (idx_main_v30 (ix3 d k n)) = ix2 d n from eq_ix2 _, coord_apply]
  show BitVec.ofBool (decide (knots x1 d k < coord x0 x5 x6 d n)) = 1#1 ↔ _
  by_cases h : knots x1 d k < coord x0 x5 x6 d n
  · exact iff_of_true (by rw [decide_eq_true h]; rfl) h
  · exact iff_of_false (by rw [decide_eq_false h]; decide) h

/-- The number of knots below the coordinate. -/
theorem count : (val_main_v33 x0 x1 x5 x6 (ix2 d n)).toNat = below (knots x1 d) (coord x0 x5 x6 d n) := by
  unfold val_main_v33 val_main_v32 val_main_c
  rw [count_apply (by decide) _ _ _ (by decide)]
  unfold below
  exact congrArg Finset.card (Finset.filter_congr fun k _ => compare_apply x0 x1 x5 x6 d n k)

/-- The word the reference looks up. -/
theorem word_apply : val_main_v36 x0 x1 x5 x6 (ix2 d n) = BitVec.ofNat 32 (piece x0 x1 x5 x6 d n).val := by
  rw [val_main_v36_apply, val_main_v34_apply, val_main_v35_apply, val_main_call2_v4_apply, val_main_call2_v2_apply,
    val_main_call2_v1_apply]
  exact pick_word _ _ (count x0 x1 x5 x6 d n) (le_trans (Finset.card_le_univ _) (by simp))

/-- Reading a matrix laid out with a last axis of one. -/
theorem spread (j : S128x262144.Idx) (h0 : (j 0).val = ((d.val * 262144 + n.val) * 1 + 0) / 262144)
    (h1 : (j 1).val = ((d.val * 262144 + n.val) * 1 + 0) % 262144) : j = ix2 d n := by
  have hn := n.isLt
  funext a; refine Fin.ext ?_
  match a with
  | ⟨0, _⟩ => refine h0.trans ?_; show _ = d.val; omega
  | ⟨1, _⟩ => refine h1.trans ?_; show _ = n.val; omega

/-- An index with a last axis of one. -/
theorem last (i : S128x262144x1.Idx) : ∃ (d : Fin 128) (n : Fin 262144), i = ix3 d n 0 := by
  refine ⟨i 0, i 1, funext fun a => Fin.ext ?_⟩
  match a with
  | ⟨0, _⟩ => rfl
  | ⟨1, _⟩ => rfl
  | ⟨2, _⟩ => have h : (i 2).val < 1 := (i 2).isLt; show (i 2).val = 0; omega

/-! ## The knot at the piece's left end. -/

/-- The word looked up. -/
theorem left_word : val_main_call3_v5 x0 x1 x5 x6 (ix3 d n 0) = BitVec.ofNat 32 (piece x0 x1 x5 x6 d n).val := by
  rw [val_main_call3_v5_apply, show idx_main_call3_v5 (ix3 d n 0) = ix2 d n from spread d n _ rfl rfl,
    val_main_call3_v4_apply, val_main_call3_v1_apply, word_apply, val_main_call3_v0_apply]
  exact word_kept _ _

/-- It is inside the row, so the lookup is kept. -/
theorem left_inside : val_main_call3_v12 x0 x1 x5 x6 (ix2 d n) = 1#1 := by
  unfold val_main_call3_v12
  refine Host.reduce_andi_one _ _ _ _ _ rfl fun i => ?_
  obtain ⟨d, n, rfl⟩ := last i
  rw [val_main_call3_v11_apply, val_main_call3_v7_apply, val_main_call3_v10_apply, left_word, val_main_call3_v6_apply,
    val_main_call3_v9_apply, val_main_call3_v8_apply]
  exact (word_inside _).2

/-- The knot looked up. -/
theorem left_apply : val_main_v37 x0 x1 x5 x6 (ix2 d n) = knots x1 d (piece x0 x1 x5 x6 d n).castSucc := by
  rw [val_main_v37_apply, left_inside, select_one]
  unfold val_main_call3_v13
  exact (along_apply_of_word (by decide) _ _ _ d n _ (left_word x0 x1 x5 x6 d n) (piece x0 x1 x5 x6 d n).castSucc (word_clamped _).2)

/-! ## The height there. -/

/-- The word looked up is the same. -/
theorem base_word : val_main_call4_v5 x0 x1 x5 x6 (ix3 d n 0) = BitVec.ofNat 32 (piece x0 x1 x5 x6 d n).val :=
  left_word x0 x1 x5 x6 d n

/-- So is the test that it is inside the row. -/
theorem base_inside : val_main_call4_v12 x0 x1 x5 x6 (ix2 d n) = 1#1 := left_inside x0 x1 x5 x6 d n

/-- The height looked up. -/
theorem base_apply : val_main_v38 x0 x1 x2 x5 x6 (ix2 d n) = height (knots x1 d) (raws x2 d) (piece x0 x1 x5 x6 d n).val := by
  rw [val_main_v38_apply, base_inside, select_one]
  unfold val_main_call4_v13
  exact (along_apply_of_word (by decide) _ _ _ d n _ (base_word x0 x1 x5 x6 d n) (piece x0 x1 x5 x6 d n).castSucc (word_clamped _).2).trans
    (height_apply x1 x2 d _)

/-! ## The piece's slope. -/

/-- The word looked up. -/
theorem tilt_word : val_main_call5_v5 x0 x1 x5 x6 (ix3 d n 0) = BitVec.ofNat 32 (piece x0 x1 x5 x6 d n).val := by
  rw [val_main_call5_v5_apply, show idx_main_call5_v5 (ix3 d n 0) = ix2 d n from spread d n _ rfl rfl,
    val_main_call5_v4_apply, val_main_call5_v1_apply, word_apply, val_main_call5_v0_apply]
  exact word_kept _ _

/-- It is inside the row, so the lookup is kept. -/
theorem tilt_inside : val_main_call5_v12 x0 x1 x5 x6 (ix2 d n) = 1#1 := by
  unfold val_main_call5_v12
  refine Host.reduce_andi_one _ _ _ _ _ rfl fun i => ?_
  obtain ⟨d, n, rfl⟩ := last i
  rw [val_main_call5_v11_apply, val_main_call5_v7_apply, val_main_call5_v10_apply, tilt_word, val_main_call5_v6_apply,
    val_main_call5_v9_apply, val_main_call5_v8_apply]
  exact (word_inside _).1

/-- The slope looked up. -/
theorem tilt_apply : val_main_v39 x0 x1 x2 x5 x6 (ix2 d n) = slope (knots x1 d) (raws x2 d) (piece x0 x1 x5 x6 d n) := by
  rw [val_main_v39_apply, tilt_inside, select_one]
  unfold val_main_call5_v13
  exact (along_apply_of_word (by decide) _ _ _ d n _ (tilt_word x0 x1 x5 x6 d n) (piece x0 x1 x5 x6 d n) (word_clamped _).1).trans
    (slope_apply x1 x2 d _)

end Cert.Spline.Reference

end
-- ==== Proof.RefValue.lean ====
/-
  The reference's result, read at an index: the projection of `refValue` over the dimensions.
-/
module

public import proofs.«01_k».proof.Proof.RefPiece

@[expose] public section

noncomputable section

namespace Cert.Spline.Reference

open Cert.ReferenceIdeal Cert.ReferenceIdeal.Gen Cert.ReferenceIdeal.Read Idealize.ShloMosaic Idealize.ShloMosaic.ValueIdx
  Cert.Spline

variable (x0 : Vec Ideal S262144x128 .f32) (x1 : Vec Ideal S128x7 .f32) (x2 : Vec Ideal S128x6 .f32)
  (x3 x4 : Vec Ideal S128 .f32) (x5 x6 x7 : Vec Ideal S1x128 .f32) (x8 : Vec Ideal S128x32 .f32)

/-- The curve of dimension `d` at token `n`'s coordinate. -/
theorem curve_apply (n : Fin 262144) (d : Fin 128) :
    val_main_v43 x0 x1 x2 x5 x6 (ix2 n d)
      = height (knots x1 d) (raws x2 d) (piece x0 x1 x5 x6 d n).val
        + slope (knots x1 d) (raws x2 d) (piece x0 x1 x5 x6 d n)
          * (coord x0 x5 x6 d n - knots x1 d (piece x0 x1 x5 x6 d n).castSucc) := by
  rw [val_main_v43_apply, show idx_main_v43 (ix2 n d) = ix2 d n from eq_ix2 _, val_main_v42_apply, val_main_v41_apply,
    val_main_v40_apply, coord_apply, left_apply, base_apply, tilt_apply]
  rfl

/-- The scale of a dimension. -/
theorem gain_apply (n : Fin 262144) (d : Fin 128) : val_main_v48 x3 (ix2 n d) = gain (x3 (ix1 d)) := by
  rw [val_main_v48_apply, val_main_v47_apply, show idx_main_v47 (idx_main_v48 (ix2 n d)) = ix1 d from eq_ix1 _,
    val_main_v46_apply, soft_scale, val_main_v45_apply]
  rfl

/-- The scaled, shifted and centred value of one token's dimension. -/
theorem shifted_apply (n : Fin 262144) (d : Fin 128) :
    val_main_v54 x0 x1 x2 x3 x4 x5 x6 x7 (ix2 n d)
      = refValue (knots x1 d) (raws x2 d) (x3 (ix1 d)) (x4 (ix1 d)) (x5 (ix2 0 d)) (x6 (ix2 0 d)) (x7 (ix2 0 d)) (x0 (ix2 n d)) := by
  rw [val_main_v54_apply, val_main_v52_apply, val_main_v49_apply, curve_apply, gain_apply, val_main_v51_apply,
    val_main_v50_apply, show idx_main_v50 (idx_main_v51 (ix2 n d)) = ix1 d from eq_ix1 _, val_main_v53_apply,
    show idx_main_v53 (ix2 n d) = ix2 0 d from eq_ix2 _]
  rfl

/-- The reference's result, at an index. -/
theorem value_apply (n : Fin 262144) (c : Fin 32) :
    val_main_v55 x0 x1 x2 x3 x4 x5 x6 x7 x8 (ix2 n c)
      = ∑ d : Fin 128, refValue (knots x1 d) (raws x2 d) (x3 (ix1 d)) (x4 (ix1 d)) (x5 (ix2 0 d)) (x6 (ix2 0 d)) (x7 (ix2 0 d))
          (x0 (ix2 n d)) * x8 (ix2 d c) := by
  rw [val_main_v55_apply]
  refine Finset.sum_congr rfl fun d _ => ?_
  rw [show lidx_main_v55 (ix2 n c) d = ix2 n d from eq_ix2 _, show ridx_main_v55 (ix2 n c) d = ix2 d c from eq_ix2 _,
    shifted_apply]

end Cert.Spline.Reference

end
-- ==== Proof.Equation.lean ====
/-
  The equation: under the precondition the kernel's output array is the reference's result, as one statement about the nine
  arguments.
-/
module

public import proofs.«01_k».proof.Proof.Precondition
public import proofs.«01_k».proof.Proof.KernelArray
public import proofs.«01_k».proof.Proof.RefValue

@[expose] public section

noncomputable section

namespace Cert.Spline

open Cert.ReferenceIdeal Cert.ReferenceIdeal.Gen Cert.ReferenceIdeal.Read Idealize.ShloMosaic Idealize.ShloMosaic.ValueIdx

variable [Cert.Pre_ordered_knots.Facts]
  (a0 : Vec Ideal S262144x128 .f32) (a1 : Vec Ideal S128x7 .f32) (a2 : Vec Ideal S128x6 .f32)
  (a3 a4 : Vec Ideal S128 .f32) (a5 a6 a7 : Vec Ideal S1x128 .f32) (a8 : Vec Ideal S128x32 .f32)

/-- All nine parts of the precondition at the given arguments. -/
def Given : Prop :=
  let p := Cert.Pre_ordered_knots.fn (F := Ideal) a0 a1 a2 a3 a4 a5 a6 a7 a8
  p.1 = (fun _ => 1#1) ∧ p.2.1 = (fun _ => 1#1) ∧ p.2.2.1 = (fun _ => 1#1) ∧ p.2.2.2.1 = (fun _ => 1#1)
    ∧ p.2.2.2.2.1 = (fun _ => 1#1) ∧ p.2.2.2.2.2.1 = (fun _ => 1#1) ∧ p.2.2.2.2.2.2.1 = (fun _ => 1#1)
    ∧ p.2.2.2.2.2.2.2.1 = (fun _ => 1#1) ∧ p.2.2.2.2.2.2.2.2 = (fun _ => 1#1)

/-- One entry: dimension by dimension, the hinges and the offset against the projection are the reference's value against it. -/
theorem entry_eq (h : Given a0 a1 a2 a3 a4 a5 a6 a7 a8) (n : Fin 262144) (c : Fin 32) :
    Kernel.entry a0 a1 a2 a3 a4 a5 a6 a7 a8 n c = val_main_v55 (F := Ideal) a0 a1 a2 a3 a4 a5 a6 a7 a8 (ix2 n c) := by
  obtain ⟨h0, h1, h2, h3, h4, h5, h6, h7, h8⟩ := h
  rw [Reference.value_apply, Kernel.entry, ← Finset.sum_add_distrib]
  exact Finset.sum_congr rfl fun d _ => dimension _ _ _ _ _ _ _ _ _
    (fun j => Precondition.knots a0 a1 a2 a3 a4 a5 a6 a7 a8 h1 (ix2 d j))
    (fun j => Precondition.ascending a0 a1 a2 a3 a4 a5 a6 a7 a8 h2 d j)
    (fun j => Precondition.slopes a0 a1 a2 a3 a4 a5 a6 a7 a8 h3 (ix2 d j))
    (Precondition.scales a0 a1 a2 a3 a4 a5 a6 a7 a8 h4 (ix1 d))
    (Precondition.centres a0 a1 a2 a3 a4 a5 a6 a7 a8 h5 (ix2 0 d))
    ⟨Precondition.spreads_pos a0 a1 a2 a3 a4 a5 a6 a7 a8 h6 (ix2 0 d),
      Precondition.spreads_top a0 a1 a2 a3 a4 a5 a6 a7 a8 h7 (ix2 0 d)⟩
    (Precondition.tokens a0 a1 a2 a3 a4 a5 a6 a7 a8 h0 (ix2 n d))
    (Precondition.weights a0 a1 a2 a3 a4 a5 a6 a7 a8 h8 (ix2 d c))

/-- The whole array. -/
theorem output_eq (h : Given a0 a1 a2 a3 a4 a5 a6 a7 a8) :
    Kernel.output a0 a1 a2 a3 a4 a5 a6 a7 a8 = val_main_v55 (F := Ideal) a0 a1 a2 a3 a4 a5 a6 a7 a8 := by
  funext i
  exact (entry_eq a0 a1 a2 a3 a4 a5 a6 a7 a8 h (i 0) (i 1)).trans (congrArg _ (eq_ix2 i).symm)

end Cert.Spline

end
-- ==== Proof.lean ====
/-
  The certificate's claim, assembled: the three frames, the idealization's preservation, and the equality of results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Equation
public import Idealize.ShloMosaic.Adequacy
public import Idealize.ShloMosaic.Init

@[expose] public section

noncomputable section

namespace Cert.Proof

open Idealize.ShloMosaic Idealize.SL.Sem

/-- The reference runs, keeps its arguments and leaves every semaphore at zero. -/
theorem reference_frame : Cert.quiescent_ReferenceIdeal := fun m g _ =>
  (θ_run _ _ _).mono (fun r h => ⟨fun c => (h c).2, Idealize.ShloMosaic.sem_eq_zero_of_no_sems (by decide) r.2⟩)
    (Cert.ReferenceIdeal.Value.run m g)

/-- From arguments that meet the precondition the kernel and the reference end with the same result. -/
theorem results_agree [Cert.Pre_ordered_knots.Facts] : Cert.algebraic_KernelIdeal_ReferenceIdeal_pre_ordered_knots := by
  intro m g m' g' hpre hargs
  refine ⟨fun c => Cert.Spline.Kernel.result m c, ?_, ?_⟩
  · exact (θ_run _ _ _).mono (fun r h c => ⟨(h c).1.trans (Cert.Spline.Kernel.array m c), (h c).2⟩)
      (Cert.KernelIdeal.Value.run_blocks m g)
  · refine (θ_run _ _ _).mono (fun r h c => ⟨(h c).1.trans ?_, (h c).2⟩) (Cert.ReferenceIdeal.Value.run m' g')
    obtain ⟨e0, e1, e2, e3, e4, e5, e6, e7, e8⟩ := hargs c
    refine (Cert.ReferenceIdeal.Read.val_main_v55_eq m' c).trans ?_
    rw [e0, e1, e2, e3, e4, e5, e6, e7, e8]
    exact (Cert.Spline.output_eq _ _ _ _ _ _ _ _ _ (hpre c)).symm

/-- Everything the certificate claims. -/
theorem claim : Cert.Claim :=
  ⟨Cert.Kernel.Gen.facts, Cert.KernelIdeal.Gen.facts, Cert.ReferenceIdeal.Gen.facts, Cert.Spline.Precondition.facts,
    fun m g _ => Cert.Kernel.Gen.frame m g, fun m g _ => Cert.KernelIdeal.Gen.frame m g,
    fun m g _ => Cert.KernelIdeal.Gen.frame m g, reference_frame, fun m g _ => reference_frame m g trivial, trivial,
    @results_agree Cert.Spline.Precondition.facts⟩

end Cert.Proof

end
